-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024 : Shape := ⟨2, ![8, 1024]⟩
abbrev S1024x100000 : Shape := ⟨2, ![1024, 100000]⟩
abbrev S100000 : Shape := ⟨1, ![100000]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S8x1024 .f32) (main_arg1 : FVec F S1024x100000 .f32) (main_arg2 : FVec F S100000 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S8x1024 : Shape := ⟨2, ![8, 1024]⟩
abbrev S1024x100000 : Shape := ⟨2, ![1024, 100000]⟩
abbrev S100000 : Shape := ⟨1, ![100000]⟩
abbrev S100000x1024 : Shape := ⟨2, ![100000, 1024]⟩
abbrev S8x1 : Shape := ⟨2, ![8, 1]⟩
abbrev S3072x1024 : Shape := ⟨2, ![3072, 1024]⟩
abbrev S3072 : Shape := ⟨1, ![3072]⟩
abbrev S8x3072 : Shape := ⟨2, ![8, 3072]⟩
abbrev S1x3072 : Shape := ⟨2, ![1, 3072]⟩
abbrev S8 : Shape := ⟨1, ![8]⟩

abbrev nBuf : Space → Nat
  | .hbm => 10
  | .vmem => 12
  | .smem => 0
  | _ => 0

abbrev bufTy : (tb : Table) → Fin (tcTables nBuf tb) → BufTy
  | .hbm, ⟨0, _⟩ => ⟨S8x1024, .f32⟩
  | .hbm, ⟨1, _⟩ => ⟨S1024x100000, .f32⟩
  | .hbm, ⟨2, _⟩ => ⟨S100000, .f32⟩
  | .hbm, ⟨3, _⟩ => ⟨S100000x1024, .f32⟩
  | .hbm, ⟨4, _⟩ => ⟨S8x1, .i32⟩
  | .hbm, ⟨5, _⟩ => ⟨S8x1, .f32⟩
  | .hbm, ⟨6, _⟩ => ⟨S8x1, .f32⟩
  | .hbm, ⟨7, _⟩ => ⟨S8, .i32⟩
  | .hbm, ⟨8, _⟩ => ⟨S8, .f32⟩
  | .hbm, ⟨9, _⟩ => ⟨S8, .f32⟩
  | .local _ .vmem, ⟨0, _⟩ => ⟨S8x1024, .f32⟩
  | .local _ .vmem, ⟨1, _⟩ => ⟨S3072x1024, .f32⟩
  | .local _ .vmem, ⟨2, _⟩ => ⟨S3072x1024, .f32⟩
  | .local _ .vmem, ⟨3, _⟩ => ⟨S3072, .f32⟩
  | .local _ .vmem, ⟨4, _⟩ => ⟨S3072, .f32⟩
  | .local _ .vmem, ⟨5, _⟩ => ⟨S8x1, .i32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x1, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32_29 : BitVec 32 := 32#32
  let v68 : BitVec 1 := Scalar.cmpi .eq arg0 c32_i32_29
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c32_i32 : BitVec 32 := 32#32
  let v2 : BitVec 32 := Scalar.select v0 c32_i32 v1
  let c0_i32_0 : BitVec 32 := 0#32
  let c0_i32_1 : BitVec 32 := 0#32
  ![v2.toNat, c0_i32_0.toNat]

def cc0_transform_2 (i : grid0.Coords) : Fin 1 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c32_i32 : BitVec 32 := 32#32
  let v2 : BitVec 32 := Scalar.select v0 c32_i32 v1
  let c0_i32_0 : BitVec 32 := 0#32
  ![v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8x1024 : Shape := ⟨2, ![8, 1024]⟩
abbrev S1024x100000 : Shape := ⟨2, ![1024, 100000]⟩
abbrev S100000 : Shape := ⟨1, ![100000]⟩
abbrev S8x100000 : Shape := ⟨2, ![8, 100000]⟩
abbrev S1x100000 : Shape := ⟨2, ![1, 100000]⟩
abbrev S_ : Shape := ⟨0, ![]⟩
abbrev S8 : Shape := ⟨1, ![8]⟩
abbrev S8x1 : Shape := ⟨2, ![8, 1]⟩
abbrev S8x1x1 : Shape := ⟨3, ![8, 1, 1]⟩
abbrev S1 : Shape := ⟨1, ![1]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x100000, .f32⟩
  | .hbm, ⟨2, _⟩ => ⟨S100000, .f32⟩
  | .hbm, ⟨3, _⟩ => ⟨S8x100000, .f32⟩
  | .hbm, ⟨4, _⟩ => ⟨S1x100000, .f32⟩
  | .hbm, ⟨5, _⟩ => ⟨S8x100000, .f32⟩
  | .hbm, ⟨6, _⟩ => ⟨S8x100000, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8x1, .f32⟩
  | .hbm, ⟨13, _⟩ => ⟨S8x100000, .f32⟩
  | .hbm, ⟨14, _⟩ => ⟨S8x100000, .f32⟩
  | .hbm, ⟨15, _⟩ => ⟨S8x100000, .f32⟩
  | .hbm, ⟨16, _⟩ => ⟨S_, .f32⟩
  | .hbm, ⟨17, _⟩ => ⟨S8, .f32⟩
  | .hbm, ⟨18, _⟩ => ⟨S8x1, .f32⟩
  | .hbm, ⟨19, _⟩ => ⟨S8x1, .f32⟩
  | .hbm, ⟨20, _⟩ => ⟨S8x100000, .f32⟩
  | .hbm, ⟨21, _⟩ => ⟨S8x100000, .f32⟩
  | .hbm, ⟨22, _⟩ => ⟨S8x100000, .f32⟩
  | .hbm, ⟨23, _⟩ => ⟨S8x100000, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x100000, .i32⟩
  | .hbm, ⟨28, _⟩ => ⟨S_, .f32⟩
  | .hbm, ⟨29, _⟩ => ⟨S_, .i32⟩
  | .hbm, ⟨30, _⟩ => ⟨S8, .f32⟩
  | .hbm, ⟨31, _⟩ => ⟨S8, .i32⟩
  | .hbm, ⟨32, _⟩ => ⟨S8x1, .i32⟩
  | .hbm, ⟨33, _⟩ => ⟨S_, .i32⟩
  | .hbm, ⟨34, _⟩ => ⟨S8x1, .i32⟩
  | .hbm, ⟨35, _⟩ => ⟨S8x1, .i1⟩
  | .hbm, ⟨36, _⟩ => ⟨S_, .i32⟩
  | .hbm, ⟨37, _⟩ => ⟨S8x1, .i32⟩
  | .hbm, ⟨38, _⟩ => ⟨S8x1, .i32⟩
  | .hbm, ⟨39, _⟩ => ⟨S8x1, .i32⟩
  | .hbm, ⟨40, _⟩ => ⟨S8x1x1, .i32⟩
  | .hbm, ⟨41, _⟩ => ⟨S1, .i32⟩
  | .hbm, ⟨42, _⟩ => ⟨S_, .i32⟩
  | .hbm, ⟨43, _⟩ => ⟨S8x1x1, .i32⟩
  | .hbm, ⟨44, _⟩ => ⟨S8x1x1, .i1⟩
  | .hbm, ⟨45, _⟩ => ⟨S1x1x1, .i32⟩
  | .hbm, ⟨46, _⟩ => ⟨S8x1x1, .i32⟩
  | .hbm, ⟨47, _⟩ => ⟨S8x1x1, .i1⟩
  | .hbm, ⟨48, _⟩ => ⟨S8x1x1, .i1⟩
  | .hbm, ⟨49, _⟩ => ⟨S_, .i1⟩
  | .hbm, ⟨50, _⟩ => ⟨S8x1, .i1⟩
  | .hbm, ⟨51, _⟩ => ⟨S8x1, .f32⟩
  | .hbm, ⟨52, _⟩ => ⟨S_, .f32⟩
  | .hbm, ⟨53, _⟩ => ⟨S8x1, .f32⟩
  | .hbm, ⟨54, _⟩ => ⟨S8x1, .f32⟩
  | .hbm, ⟨55, _⟩ => ⟨S8, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_cst : Ref sig .tc := ⟨.hbm, 28, rfl⟩
abbrev main_call1_c : Ref sig .tc := ⟨.hbm, 29, rfl⟩
abbrev main_call1_v1_0 : Ref sig .tc := ⟨.hbm, 30, rfl⟩
abbrev main_v9 : Ref sig .tc := ⟨.hbm, 31, rfl⟩
abbrev main_v10 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v11 : Ref sig .tc := ⟨.hbm, 54, rfl⟩
abbrev main_v12 : Ref sig .tc := ⟨.hbm, 55, rfl⟩

abbrev nD : Nat := 1
abbrev τ : Topo := Topo.v7x

variable {F : FTy → Type} [FloatOps F]
-- ==== Proof.Word.Frame.lean ====
/- The frame of the kernel as written: it runs to its end from any memory, the argument arrays end as they started and
   every semaphore counter ends at zero. No window's contents are named: each staging buffer and each scratch buffer is
   handed to a grid point at some contents and taken back at some contents. -/
module

public import proofs.«01_k».proof.Proof.Gen.Kernel.Frame
public import proofs.«01_k».proof.Proof.Gen.Kernel.Skeleton
public import Idealize.ShloMosaic.Lib.Pipeline.Value

@[expose] public section

set_option maxRecDepth 16384

noncomputable section

namespace Cert.Kernel.Word

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The test of the first conditional: the grid coordinate is zero. -/
def first (i : grid0.Coords) : BitVec 1 :=
  Scalar.cmpi .ne ((Scalar.extui (Scalar.cmpi .eq (BitVec.ofNat 32 (i 0).val) 0#32) : BitVec 32)) 0#32

/-- A buffer held at some contents. -/
def some_ {sp : Space} {S : Shape} {e : EltTy} (c : Dev nD) (M : Memref sig .tc sp S e) : sProp 𝕄 :=
  iprop(∃ X, owns (c : Thread nD τ) M fullShare X)

/-- The ten buffers a grid point works on, each at some contents. -/
def held (c : Dev nD) (arg1 : Memref sig .tc .vmem S8x1024 .f32) (arg2 : Memref sig .tc .vmem S3072x1024 .f32)
    (arg3 : Memref sig .tc .vmem S3072 .f32) (arg4 : Memref sig .tc .vmem S8x1 .i32) (arg5 arg6 arg7 arg8 arg9 : Memref sig .tc .vmem S8x1 .f32)
    (arg10 : Memref sig .tc .vmem S8x1 .i32) : sProp 𝕄 :=
  iprop(some_ c arg1 ∗ some_ c arg2 ∗ some_ c arg3 ∗ some_ c arg4 ∗ some_ c arg5 ∗ some_ c arg6 ∗ some_ c arg7 ∗ some_ c arg8
    ∗ some_ c arg9 ∗ some_ c arg10)

/-- A buffer whose cells are held is held at some contents. -/
theorem held_of {sp : Space} {S : Shape} {e : EltTy} (c : Dev nD) (M : Memref sig .tc sp S e) (f : Buf (Elt F) (M.view.loc (c : Thread nD τ))) :
    (iprop(M.view.loc (c : Thread nD τ) ↦[M.view.set]{fullShare} f) : sProp 𝕄) ⊢ iprop(∃ X, owns (c : Thread nD τ) M fullShare X) := by
  unfold owns
  iintro H
  iexists _, f; isplitr; swap; · iexact H
  ipureintro; rfl

set_option maxHeartbeats 4000000 in
/-- One grid point runs, from the ten buffers at some contents to the ten buffers at some contents, whichever of its two
    conditionals it takes. -/
theorem point_runs (c : Dev nD) (E : Set ℕ) (i : grid0.Coords)
    (arg1 : Memref sig .tc .vmem S8x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S8x1 .i32) (harg4 : arg4.IsWhole)
    (arg5 : Memref sig .tc .vmem S8x1 .f32) (harg5 : arg5.IsWhole) (arg6 : Memref sig .tc .vmem S8x1 .f32) (harg6 : arg6.IsWhole)
    (arg7 : Memref sig .tc .vmem S8x1 .f32) (harg7 : arg7.IsWhole) (arg8 : Memref sig .tc .vmem S8x1 .f32) (harg8 : arg8.IsWhole)
    (arg9 : Memref sig .tc .vmem S8x1 .f32) (harg9 : arg9.IsWhole) (arg10 : Memref sig .tc .vmem S8x1 .i32) (harg10 : arg10.IsWhole)
    (K : PUnit → sProp 𝕄) :
    iprop(held (F := F) c arg1 arg2 arg3 arg4 arg5 arg6 arg7 arg8 arg9 arg10
        ∗ (held (F := F) c arg1 arg2 arg3 arg4 arg5 arg6 arg7 arg8 arg9 arg10 -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton]
  unfold held some_
  iintro ⟨⟨⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩⟩, Hk⟩
  unfold owns
  icases H1 with ⟨%f1, -, H1⟩
  icases H2 with ⟨%f2, -, H2⟩
  icases H3 with ⟨%f3, -, H3⟩
  icases H4 with ⟨%f4, -, H4⟩
  icases H5 with ⟨%f5, -, H5⟩
  icases H6 with ⟨%f6, -, H6⟩
  icases H7 with ⟨%f7, -, H7⟩
  icases H8 with ⟨%f8, -, H8⟩
  icases H9 with ⟨%f9, -, H9⟩
  icases H10 with ⟨%f10, -, H10⟩
  by_cases h1 : first i = 1#1 <;> by_cases h2 : k0_cond2 i = 1#1
  all_goals
    sl_exec (disch := first | exact h1 | exact h2)
    sl_step
    iapply Hk
    sl_unfold_run_names
    isplitl [H1]; · iapply (held_of c arg1 _); iexact H1
    isplitl [H2]; · iapply (held_of c arg2 _); iexact H2
    isplitl [H3]; · iapply (held_of c arg3 _); iexact H3
    isplitl [H4]; · iapply (held_of c arg4 _); iexact H4
    isplitl [H5]; · iapply (held_of c arg5 _); iexact H5
    isplitl [H6]; · iapply (held_of c arg6 _); iexact H6
    isplitl [H7]; · iapply (held_of c arg7 _); iexact H7
    isplitl [H8]; · iapply (held_of c arg8 _); iexact H8
    isplitl [H9]; · iapply (held_of c arg9 _); iexact H9
    iapply (held_of c arg10 _); iexact H10

variable (m : (ℓ : Loc nD τ sig) → Buf (Elt F) ℓ) (ρ : Dev nD → PrngReg)

/-- Every window is forgotten: nothing here reads what any staging buffer holds. -/
def forgets : Fin 6 → Bool := fun _ => true

/-- The data of the run: the arrays as the pipeline finds them, nothing named of the staging buffers, the scratch buffers at
    some contents throughout. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The windows' arrays are those at the region's entry. -/
theorem A_eq (c : Dev nD) (w : Fin cfg0.W) : (dats m 0 c).A w = V m c (Pipeline.arrRef spec0 w) := by dsimp only [dats]

/-- The body table's row at a point is the body on that point's buffers. -/
theorem defs₀_row (t : Fin cfg0.N) : defs₀ (F := F) .tc cfg0.body (cfg0.bodyArgs t (cfg0.slots t)) = bodyAt0 t := by
  unfold defs₀; rw [Defs.onTc_tc]

/-- A scratch buffer whole at some contents is that buffer held at some contents. -/
theorem scratch_held (c : Dev nD) (b : Ref sig .tc) :
    (some_ (F := F) c (Memref.whole b) : sProp 𝕄) = iprop(∃ f : Buf (Elt F) ((c : Thread nD τ).loc b), ((c : Thread nD τ).loc b) ↦{fullShare} f) := by
  unfold some_; simp only [owns_whole]

set_option maxHeartbeats 1000000 in
/-- Every grid point meets its obligation, every window forgotten. -/
theorem body_obligation (c : Dev nD) :
    BodyObligationLoose (dats (F := F) m 0 c) (defs₀ (F := F)) Variants.none () Set.univ forgets := fun t => by
  rw [bigSep_W0, bigSep_W0, defs₀_row]
  simp only [forgets]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest spec0 c ∗ ∃ r, prngReg c r) from rfl, scopedRest0_eq]
  iintro ⟨⟨⟨S0, S1, S2, S3⟩, Hg⟩, Ho, H0, H1, H2, H3, H4, H5⟩
  unfold bodyAt0
  iapply (point_runs (F := F) c Set.univ (grid0.coords t) _ _ _ _ _ _ _ _ _ _ _ _ _ _ _ _ _ _ _ _ _)
  unfold held
  isplitl [S0 S1 S2 S3 H0 H1 H2 H3 H4 H5]
  · isplitl [H0]; · unfold some_; iexact H0
    isplitl [H1]; · unfold some_; iexact H1
    isplitl [H2]; · unfold some_; iexact H2
    isplitl [H3]; · unfold some_; iexact H3
    isplitl [H4]; · unfold some_; iexact H4
    isplitl [H5]; · unfold some_; iexact H5
    isplitl [S0]; · rw [scratch_held]; iexact S0
    isplitl [S1]; · rw [scratch_held]; iexact S1
    isplitl [S2]; · rw [scratch_held]; iexact S2
    rw [scratch_held]; iexact S3
  iintro ⟨H0, H1, H2, H3, H4, H5, S0, S1, S2, S3⟩
  isplitl [S0 S1 S2 S3 Hg]
  · isplitl [S0 S1 S2 S3]
    · isplitl [S0]; · rw [← scratch_held]; iexact S0
      isplitl [S1]; · rw [← scratch_held]; iexact S1
      isplitl [S2]; · rw [← scratch_held]; iexact S2
      rw [← scratch_held]; iexact S3
    iexact Hg
  isplitl [Ho]; · iexact Ho
  isplitl [H0]; · unfold some_; iexact H0
  isplitl [H1]; · unfold some_; iexact H1
  isplitl [H2]; · unfold some_; iexact H2
  isplitl [H3]; · unfold some_; iexact H3
  isplitl [H4]; · unfold some_; iexact H4
  unfold some_; iexact H5

/-- The buffers the lines after the pipeline write: the three results. -/
def results : Finset (Ref sig .tc) := {main_v2, main_v3, main_v4}

/-- The operations after the region write none of the arrays it reads. -/
theorem tail_writes : ∀ ops ∈ ([hostOps1] : List (List (HloOp τ sig (Elt F)))), ∀ op ∈ ops, ∀ b : Ref sig .tc,
    Proc.devRef .tc b ∈ op.writes → b ∈ results := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    have := Proc.devRef_injective _ hb
    subst this
    decide

set_option backward.isDefEq.respectTransparency.types false in
/-- The whole program runs; the arrays the pipeline stages as inputs end as it found them, and so does every other buffer that is
    no result. -/
theorem run_main :
    θ_run defs (onTc (τ := τ) (main (F := F))) (s₀ m ρ)
      (fun r => Pipeline.RDat.FramePostR (cfgs 0) (fun c => (dats m 0 c).toRForget forgets) results (V m) r ∧ r.2.sem = fun _ => 0) :=
  Pipeline.θ_run_frame_around_T_forget (Q' := _) cfgs (dats m) (0 : Fin 1) launch0 defs₀ Variants.none forgets results m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := A_eq m) (hΦ := fun _ _ => rfl)

/-- The frame: the argument arrays end as they started, every semaphore counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 0 rfl).trans ((A_eq m c 0).trans (V_main_arg0 m c)),
      ((h.1 c).2 main_arg1 (Finset.mem_sdiff.mpr ⟨Pipeline.mem_restRefs_of main_arg1 (by decide) (by decide), by decide⟩)).trans (V_main_arg1 m c),
      (h.1.arr_in c 2 rfl).trans ((A_eq m c 2).trans (V_main_arg2 m c))⟩, h.2⟩) (run_main m ρ)

end Cert.Kernel.Word

end
-- ==== Proof.Ideal.Body.lean ====
/- The body's triple: one grid point of the idealized kernel as a step on the four carried vectors. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The test of the first conditional: the grid coordinate is zero. -/
def cond1 (i : grid0.Coords) : BitVec 1 :=
  Scalar.cmpi .ne ((Scalar.extui (Scalar.cmpi .eq (BitVec.ofNat 32 (i 0).val) 0#32) : BitVec 32)) 0#32

/-- The four vectors a grid point hands to the next: running maximum, scaled sum, scaled weighted sum, index. -/
structure St (F : FTy → Type) where
  m : Vec F S8x1 .f32
  s : Vec F S8x1 .f32
  t : Vec F S8x1 .f32
  idx : Vec F S8x1 .i32

/-- The state the first point starts from. -/
def St.init : St F := ⟨k0_pay8, k0_pay9, k0_pay10, k0_pay11⟩

/-- One point's step from the state `a`, on the message block `x1`, the weight block `x2` and the bias block `x3`. -/
def step (i : grid0.Coords) (x1 : Vec F S8x1024 .f32) (x2 : Vec F S3072x1024 .f32) (x3 : Vec F S3072 .f32) (a : St F) : St F where
  m := k0_pay3 (k0_pay16 i x1 x2 x3 a.m)
  s := k0_pay1 (k0_pay17 i x1 x2 x3 a.m) (k0_pay18 i x1 x2 x3 a.m) a.s
  t := k0_pay2 (k0_pay13 i x1 x2 x3) (k0_pay17 i x1 x2 x3 a.m) (k0_pay18 i x1 x2 x3 a.m) a.t
  idx := k0_pay4 (k0_pay14 i x1 x2 x3) (k0_pay15 i x1 x2 x3) a.m a.idx a.idx

/-- The four scratch buffers at a state. -/
def scr (c : Dev nD) (arg7 : Memref sig .tc .vmem S8x1 .f32) (arg8 : Memref sig .tc .vmem S8x1 .f32)
    (arg9 : Memref sig .tc .vmem S8x1 .f32) (arg10 : Memref sig .tc .vmem S8x1 .i32) (a : St F) : sProp 𝕄 :=
  iprop(owns (c : Thread nD τ) arg7 fullShare a.m ∗ owns (c : Thread nD τ) arg8 fullShare a.s
    ∗ owns (c : Thread nD τ) arg9 fullShare a.t ∗ owns (c : Thread nD τ) arg10 fullShare a.idx)

/-- The zero offsets of a rectangle. -/
theorem hz2 : (![0, 0] : Fin 2 → Nat) = fun _ => 0 := funext fun a => by fin_cases a <;> rfl
/-- The zero offset of a vector. -/
theorem hz1 : (![0] : Fin 1 → Nat) = fun _ => 0 := funext fun a => by fin_cases a; rfl

section Access

variable {κ : Kind} {sp : Space} {S : Shape} {e : EltTy}

/-- A load of a whole buffer reads its contents. -/
theorem load_whole (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  View.ld_unit_zero h inb _

/-- A store to a whole buffer leaves the stored value, whatever was stored before. -/
theorem store_whole (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  have hc : ∀ y, ∃ p ∈ ((⟨Rect.unit off S.size inb, w⟩ : View.Piece (Elt F) S e) :: L), y ∈ p.1.set := fun y =>
    ⟨_, List.mem_cons_self, by
      subst h; show y ∈ (Rect.whole S).set; rw [Rect.set_whole]; exact Finset.mem_univ y⟩
  exact (View.read_writes_eq_canon _ _ _ hc).trans (View.canon_cons_unit_zero h inb w L)

end Access

variable (c : Dev nD) (E : Set ℕ) (i : grid0.Coords)
    (arg1 : Memref sig .tc .vmem S8x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S8x1 .i32) (harg4 : arg4.IsWhole)
    (arg5 : Memref sig .tc .vmem S8x1 .f32) (harg5 : arg5.IsWhole) (arg6 : Memref sig .tc .vmem S8x1 .f32) (harg6 : arg6.IsWhole)
    (arg7 : Memref sig .tc .vmem S8x1 .f32) (harg7 : arg7.IsWhole) (arg8 : Memref sig .tc .vmem S8x1 .f32) (harg8 : arg8.IsWhole)
    (arg9 : Memref sig .tc .vmem S8x1 .f32) (harg9 : arg9.IsWhole) (arg10 : Memref sig .tc .vmem S8x1 .i32) (harg10 : arg10.IsWhole)
    (x1 : Vec F S8x1024 .f32) (x2 : Vec F S3072x1024 .f32) (x3 : Vec F S3072 .f32) (a : St F)

/-- The three input buffers at their contents. -/
def ins : sProp 𝕄 :=
  iprop(owns (c : Thread nD τ) arg1 fullShare x1 ∗ owns (c : Thread nD τ) arg2 fullShare x2 ∗ owns (c : Thread nD τ) arg3 fullShare x3)

set_option maxHeartbeats 4000000 in
/-- A middle point: the scratch buffers step; nothing else changes. -/
theorem body_mid (h1 : ¬ cond1 i = 1#1) (h2 : ¬ k0_cond2 i = 1#1) (K : PUnit → sProp 𝕄) :
    iprop(ins c arg1 arg2 arg3 x1 x2 x3 ∗ scr c arg7 arg8 arg9 arg10 a
        ∗ (iprop(ins c arg1 arg2 arg3 x1 x2 x3 ∗ scr c arg7 arg8 arg9 arg10 (step i x1 x2 x3 a)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton]
  unfold ins scr owns
  iintro ⟨⟨⟨%f1, %hf1, H1⟩, ⟨%f2, %hf2, H2⟩, ⟨%f3, %hf3, H3⟩⟩, ⟨⟨%f7, %hf7, H7⟩, ⟨%f8, %hf8, H8⟩, ⟨%f9, %hf9, H9⟩, ⟨%f10, %hf10, H10⟩⟩, Hk⟩
  have r1 := (load_whole arg1.view f1 hz2 inb_S8x1024_S8x1024_0_0).trans hf1
  have r2 := (load_whole arg2.view f2 hz2 inb_S3072x1024_S3072x1024_0_0).trans hf2
  have r3 := (load_whole arg3.view f3 hz1 inb_S3072_S3072_0).trans hf3
  have r7 := (load_whole arg7.view f7 hz2 inb_S8x1_S8x1_0_0).trans hf7
  have r8 := (load_whole arg8.view f8 hz2 inb_S8x1_S8x1_0_0).trans hf8
  have r9 := (load_whole arg9.view f9 hz2 inb_S8x1_S8x1_0_0).trans hf9
  have r10 := (load_whole arg10.view f10 hz2 inb_S8x1_S8x1_0_0).trans hf10
  sl_exec (disch := first | exact h1 | exact h2)
  sl_step
  iapply Hk
  sl_unfold_run_names
  isplitl [H1 H2 H3]
  · isplitl [H1]
    · iexists f1; isplitr; · ipureintro; exact hf1
      iexact H1
    isplitl [H2]
    · iexists f2; isplitr; · ipureintro; exact hf2
      iexact H2
    iexists f3; isplitr; · ipureintro; exact hf3
    iexact H3
  isplitl [H7]
  · iexists _; isplitr
    swap; · iexact H7
    ipureintro
    refine (store_whole arg7.view _ hz2 inb_S8x1_S8x1_0_0 _ _).trans ?_
    rfl
  isplitl [H8]
  · iexists _; isplitr
    swap; · iexact H8
    ipureintro
    refine (store_whole arg8.view _ hz2 inb_S8x1_S8x1_0_0 _ _).trans ?_
    rfl
  isplitl [H9]
  · iexists _; isplitr
    swap; · iexact H9
    ipureintro
    refine (store_whole arg9.view _ hz2 inb_S8x1_S8x1_0_0 _ _).trans ?_
    rfl
  iexists _; isplitr
  swap; · iexact H10
  ipureintro
  refine (store_whole arg10.view _ hz2 inb_S8x1_S8x1_0_0 _ _).trans ?_
  rfl

set_option maxHeartbeats 4000000 in
/-- The first point: the scratch buffers, at anything, are set to the initial state and step. -/
theorem body_first (h1 : cond1 i = 1#1) (h2 : ¬ k0_cond2 i = 1#1) (K : PUnit → sProp 𝕄) :
    iprop(ins c arg1 arg2 arg3 x1 x2 x3 ∗ scr c arg7 arg8 arg9 arg10 a
        ∗ (iprop(ins c arg1 arg2 arg3 x1 x2 x3 ∗ scr c arg7 arg8 arg9 arg10 (step i x1 x2 x3 St.init)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton]
  unfold ins scr owns
  iintro ⟨⟨⟨%f1, %hf1, H1⟩, ⟨%f2, %hf2, H2⟩, ⟨%f3, %hf3, H3⟩⟩, ⟨⟨%f7, %hf7, H7⟩, ⟨%f8, %hf8, H8⟩, ⟨%f9, %hf9, H9⟩, ⟨%f10, %hf10, H10⟩⟩, Hk⟩
  have r1 := (load_whole arg1.view f1 hz2 inb_S8x1024_S8x1024_0_0).trans hf1
  have r2 := (load_whole arg2.view f2 hz2 inb_S3072x1024_S3072x1024_0_0).trans hf2
  have r3 := (load_whole arg3.view f3 hz1 inb_S3072_S3072_0).trans hf3
  sl_exec (disch := first | exact h1 | exact h2)
  sl_step
  iapply Hk
  sl_unfold_run_names
  isplitl [H1 H2 H3]
  · isplitl [H1]
    · iexists f1; isplitr; · ipureintro; exact hf1
      iexact H1
    isplitl [H2]
    · iexists f2; isplitr; · ipureintro; exact hf2
      iexact H2
    iexists f3; isplitr; · ipureintro; exact hf3
    iexact H3
  isplitl [H7]
  · iexists _; isplitr
    swap; · iexact H7
    ipureintro
    refine (store_whole arg7.view _ hz2 inb_S8x1_S8x1_0_0 _ _).trans ?_
    (try simp only [View.readCov_cons_toLoadRect]); rfl
  isplitl [H8]
  · iexists _; isplitr
    swap; · iexact H8
    ipureintro
    refine (store_whole arg8.view _ hz2 inb_S8x1_S8x1_0_0 _ _).trans ?_
    (try simp only [View.readCov_cons_toLoadRect]); rfl
  isplitl [H9]
  · iexists _; isplitr
    swap; · iexact H9
    ipureintro
    refine (store_whole arg9.view _ hz2 inb_S8x1_S8x1_0_0 _ _).trans ?_
    (try simp only [View.readCov_cons_toLoadRect]); rfl
  iexists _; isplitr
  swap; · iexact H10
  ipureintro
  refine (store_whole arg10.view _ hz2 inb_S8x1_S8x1_0_0 _ _).trans ?_
  (try simp only [View.readCov_cons_toLoadRect]); rfl

set_option maxHeartbeats 4000000 in
/-- The last point: the scratch buffers step, and the three results are written from the state they end at. -/
theorem body_last (y4 : Vec F S8x1 .i32) (y5 y6 : Vec F S8x1 .f32) (h1 : ¬ cond1 i = 1#1) (h2 : k0_cond2 i = 1#1) (K : PUnit → sProp 𝕄) :
    iprop(ins c arg1 arg2 arg3 x1 x2 x3 ∗ scr c arg7 arg8 arg9 arg10 a
        ∗ (owns (c : Thread nD τ) arg4 fullShare y4 ∗ owns (c : Thread nD τ) arg5 fullShare y5 ∗ owns (c : Thread nD τ) arg6 fullShare y6)
        ∗ (iprop(ins c arg1 arg2 arg3 x1 x2 x3 ∗ scr c arg7 arg8 arg9 arg10 (step i x1 x2 x3 a)
            ∗ (owns (c : Thread nD τ) arg4 fullShare (step i x1 x2 x3 a).idx
              ∗ owns (c : Thread nD τ) arg5 fullShare (k0_pay6 (step i x1 x2 x3 a).m (step i x1 x2 x3 a).s)
              ∗ owns (c : Thread nD τ) arg6 fullShare (k0_pay7 (step i x1 x2 x3 a).m (step i x1 x2 x3 a).s (step i x1 x2 x3 a).t))) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton]
  unfold ins scr owns
  iintro ⟨⟨⟨%f1, %hf1, H1⟩, ⟨%f2, %hf2, H2⟩, ⟨%f3, %hf3, H3⟩⟩, ⟨⟨%f7, %hf7, H7⟩, ⟨%f8, %hf8, H8⟩, ⟨%f9, %hf9, H9⟩, ⟨%f10, %hf10, H10⟩⟩, ⟨⟨%f4, %hf4, H4⟩, ⟨%f5, %hf5, H5⟩, ⟨%f6, %hf6, H6⟩⟩, Hk⟩
  have r1 := (load_whole arg1.view f1 hz2 inb_S8x1024_S8x1024_0_0).trans hf1
  have r2 := (load_whole arg2.view f2 hz2 inb_S3072x1024_S3072x1024_0_0).trans hf2
  have r3 := (load_whole arg3.view f3 hz1 inb_S3072_S3072_0).trans hf3
  have r7 := (load_whole arg7.view f7 hz2 inb_S8x1_S8x1_0_0).trans hf7
  have r8 := (load_whole arg8.view f8 hz2 inb_S8x1_S8x1_0_0).trans hf8
  have r9 := (load_whole arg9.view f9 hz2 inb_S8x1_S8x1_0_0).trans hf9
  have r10 := (load_whole arg10.view f10 hz2 inb_S8x1_S8x1_0_0).trans hf10
  sl_exec (disch := first | exact h1 | exact h2)
  sl_step
  iapply Hk
  sl_unfold_run_names
  isplitl [H1 H2 H3]
  · isplitl [H1]
    · iexists f1; isplitr; · ipureintro; exact hf1
      iexact H1
    isplitl [H2]
    · iexists f2; isplitr; · ipureintro; exact hf2
      iexact H2
    iexists f3; isplitr; · ipureintro; exact hf3
    iexact H3
  isplitl [H7 H8 H9 H10]
  · isplitl [H7]
    · iexists _; isplitr
      swap; · iexact H7
      ipureintro
      refine (store_whole arg7.view _ hz2 inb_S8x1_S8x1_0_0 _ _).trans ?_
      rfl
    isplitl [H8]
    · iexists _; isplitr
      swap; · iexact H8
      ipureintro
      refine (store_whole arg8.view _ hz2 inb_S8x1_S8x1_0_0 _ _).trans ?_
      rfl
    isplitl [H9]
    · iexists _; isplitr
      swap; · iexact H9
      ipureintro
      refine (store_whole arg9.view _ hz2 inb_S8x1_S8x1_0_0 _ _).trans ?_
      rfl
    iexists _; isplitr
    swap; · iexact H10
    ipureintro
    refine (store_whole arg10.view _ hz2 inb_S8x1_S8x1_0_0 _ _).trans ?_
    rfl
  isplitl [H4]
  · iexists _; isplitr
    swap; · iexact H4
    ipureintro
    refine (store_whole arg4.view _ hz2 inb_S8x1_S8x1_0_0 _ _).trans ?_
    (try simp only [View.readCov_cons_toLoadRect]); rfl
  isplitl [H5]
  · iexists _; isplitr
    swap; · iexact H5
    ipureintro
    refine (store_whole arg5.view _ hz2 inb_S8x1_S8x1_0_0 _ _).trans ?_
    (try simp only [View.readCov_cons_toLoadRect]); rfl
  iexists _; isplitr
  swap; · iexact H6
  ipureintro
  refine (store_whole arg6.view _ hz2 inb_S8x1_S8x1_0_0 _ _).trans ?_
  (try simp only [View.readCov_cons_toLoadRect]); rfl

end Cert.KernelIdeal.Stream

end
-- ==== Proof.Ideal.Block.lean ====
/- What one grid point reads: the columns of its block, and its masked logits at an index. -/
module

public import proofs.«01_k».proof.Proof.Ideal.Body
public import Idealize.ShloMosaic.Lib.Pointwise
public import Idealize.ShloMosaic.Lib.WordCmp
public import Idealize.ShloMosaic.PureOps.Ideal.Laws

@[expose] public section

set_option maxRecDepth 16384

noncomputable section

namespace Cert.KernelIdeal.Stream

open Cert.KernelIdeal Cert.KernelIdeal.Gen
open Idealize.ShloMosaic

/-- The block of columns that point `t` works on: the last block first, then the others in order. -/
def blk (t : Fin grid0.N) : ℕ := if t.val = 0 then 32 else t.val - 1

/-- There are 33 blocks of columns. -/
theorem blk_le (t : Fin grid0.N) : blk t ≤ 32 := by
  have h : t.val < 33 := t.isLt
  unfold blk; split <;> omega

/-- The first column of the point's block, as the program computes it. -/
theorem base_eq : ∀ t : Fin grid0.N, Scalar.muli (Scalar.select (Scalar.cmpi .eq (BitVec.ofNat 32 (grid0.coords t 0).val) 0#32) 32#32
    (Scalar.subi (BitVec.ofNat 32 (grid0.coords t 0).val) 1#32)) 3072#32 = BitVec.ofNat 32 (blk t * 3072) := by
  decide +kernel

/-- The column number at an index of the point's block. -/
theorem pay12_apply (t : Fin grid0.N) (r : Fin 8) (l : Fin 3072) :
    k0_pay12 (grid0.coords t) (ix2 r l) = BitVec.ofNat 32 (blk t * 3072 + l.val) := by
  have h : k0_pay12 (grid0.coords t) (ix2 r l) = BitVec.ofNat 32 (blk t * 3072) + BitVec.ofNat 32 l.val := by
    rw [← base_eq]; pointwise [k0_pay12]; rfl
  rw [h, BitVec.ofNat_add]

/-- The masked logits at an index: the product's row plus the bias inside the vocabulary, minus infinity outside. -/
theorem pay13_apply (t : Fin grid0.N) (x1 : Vec Ideal S8x1024 .f32) (x2 : Vec Ideal S3072x1024 .f32) (x3 : Vec Ideal S3072 .f32)
    (r : Fin 8) (l : Fin 3072) :
    k0_pay13 (F := Ideal) (grid0.coords t) x1 x2 x3 (ix2 r l)
      = if blk t * 3072 + l.val < 100000 then (∑ k : Fin 1024, (x1 (ix2 r k) : EReal) * x2 (ix2 l k)) + x3 (ix1 l) else (⊥ : EReal) := by
  have hb := blk_le t
  have hl := l.isLt
  have hm : Named.named (F := Ideal) κ "mask" (φ := .f32) 0xF149F2CA#32 = (⊥ : EReal) :=
    IdealRules.named_const.ideal_named_scalar κ "mask" _ ⊥ rfl
  pointwise! [k0_pay13]
  rw [pay12_apply, hm, WordCmp.cmpi_slt_ofNat (by norm_num; omega) (by norm_num)]
  by_cases h : blk t * 3072 + l.val < 100000
  · simp [h, Scalar.select]
  · simp [h, Scalar.select]

/-- The part of the weight block inside the vocabulary, and of the bias block. -/
theorem xsize_eq : ∀ t : Fin grid0.N, win0_1.xsize (grid0.coords t) 0 = min 3072 (100000 - blk t * 3072)
    ∧ win0_1.xsize (grid0.coords t) 1 = 1024 ∧ win0_2.xsize (grid0.coords t) 0 = min 3072 (100000 - blk t * 3072) := by
  decide +kernel

/-- The block indices of the weight and bias windows. -/
theorem index_eq : ∀ t : Fin grid0.N, cc0_transform_1 (grid0.coords t) 0 = blk t ∧ cc0_transform_1 (grid0.coords t) 1 = 0
    ∧ cc0_transform_2 (grid0.coords t) 0 = blk t := by
  decide +kernel

/-- A row of the weight block inside the vocabulary is fetched. -/
theorem moved1 (t : Fin grid0.N) (l : Fin 3072) (k : Fin 1024) (h : blk t * 3072 + l.val < 100000) :
    win0_1.moved (grid0.coords t) (ix2 l k) = true := by
  refine (win0_1.moved_iff _ _).mpr fun a => ?_
  have hl := l.isLt
  match a with
  | ⟨0, _⟩ => exact lt_of_lt_of_eq (show l.val < min 3072 (100000 - blk t * 3072) by omega) (xsize_eq t).1.symm
  | ⟨1, _⟩ => exact lt_of_lt_of_eq k.isLt (xsize_eq t).2.1.symm

/-- An element of the bias block inside the vocabulary is fetched. -/
theorem moved2 (t : Fin grid0.N) (l : Fin 3072) (h : blk t * 3072 + l.val < 100000) :
    win0_2.moved (grid0.coords t) (ix1 l) = true := by
  refine (win0_2.moved_iff _ _).mpr fun a => ?_
  have hl := l.isLt
  match a with
  | ⟨0, _⟩ => exact lt_of_lt_of_eq (show l.val < min 3072 (100000 - blk t * 3072) by omega) (xsize_eq t).2.2.symm

/-- The masked logits do not depend on what the buffers hold past the end of the vocabulary. -/
theorem pay13_fill (t : Fin grid0.N) (x1 : Vec Ideal S8x1024 .f32) (d d' : Vec Ideal S3072x1024 .f32) (e e' : Vec Ideal S3072 .f32)
    (f : (win0_1.xblock (grid0.coords t)).Idx → Elt Ideal .f32) (g : (win0_2.xblock (grid0.coords t)).Idx → Elt Ideal .f32) :
    k0_pay13 (F := Ideal) (grid0.coords t) x1 (win0_1.fill (grid0.coords t) d f) (win0_2.fill (grid0.coords t) e g)
      = k0_pay13 (F := Ideal) (grid0.coords t) x1 (win0_1.fill (grid0.coords t) d' f) (win0_2.fill (grid0.coords t) e' g) := by
  funext j
  obtain ⟨r, l, rfl⟩ : ∃ (r : Fin 8) (l : Fin 3072), j = ix2 r l := ⟨j 0, j 1, eq_ix2 j⟩
  rw [pay13_apply, pay13_apply]
  by_cases h : blk t * 3072 + l.val < 100000
  · rw [if_pos h, if_pos h]
    have h1 : ∀ k : Fin 1024, win0_1.fill (grid0.coords t) d f (ix2 l k) = win0_1.fill (grid0.coords t) d' f (ix2 l k) := fun k => by
      unfold Pipeline.Window.fill; rw [dif_pos (moved1 t l k h), dif_pos (moved1 t l k h)]
    have h2 : win0_2.fill (grid0.coords t) e g (ix1 l) = win0_2.fill (grid0.coords t) e' g (ix1 l) := by
      unfold Pipeline.Window.fill; rw [dif_pos (moved2 t l h), dif_pos (moved2 t l h)]
    rw [h2]; simp only [h1]
  · rw [if_neg h, if_neg h]

/-- A step depends on the blocks only through the masked logits. -/
theorem step_congr {F : FTy → Type} [FloatOps F] [Named F] (i : grid0.Coords) (x1 y1 : Vec F S8x1024 .f32) (x2 y2 : Vec F S3072x1024 .f32) (x3 y3 : Vec F S3072 .f32)
    (h : k0_pay13 i x1 x2 x3 = k0_pay13 i y1 y2 y3) (a : St F) : step i x1 x2 x3 a = step i y1 y2 y3 a := by
  have h14 : k0_pay14 i x1 x2 x3 = k0_pay14 i y1 y2 y3 := by unfold k0_pay14; rw [h]
  have h15 : k0_pay15 i x1 x2 x3 = k0_pay15 i y1 y2 y3 := by unfold k0_pay15; rw [h, h14]
  have h16 : k0_pay16 i x1 x2 x3 a.m = k0_pay16 i y1 y2 y3 a.m := by unfold k0_pay16; rw [h14]
  have h17 : k0_pay17 i x1 x2 x3 a.m = k0_pay17 i y1 y2 y3 a.m := by unfold k0_pay17; rw [h, h16]
  have h18 : k0_pay18 i x1 x2 x3 a.m = k0_pay18 i y1 y2 y3 a.m := by unfold k0_pay18; rw [h16]
  unfold step; rw [h, h14, h15, h16, h17, h18]

end Cert.KernelIdeal.Stream

end
-- ==== Proof.Ideal.Run.lean ====
/- The run of the idealized kernel: what the three result arrays hold, and the frame. -/
module

public import proofs.«01_k».proof.Proof.Ideal.Block
public import Idealize.ShloMosaic.Lib.Pipeline.FrameSuffix
public import Idealize.ShloMosaic.Lib.Pipeline.ValueKit.Geometry

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The weight block of a point, zeros past the end of the vocabulary. -/
def wblk (c : Dev nD) (t : Fin grid0.N) : Vec Ideal S3072x1024 .f32 := win0_1.fill (grid0.coords t) (fun _ => (0 : EReal)) (iblk m c 1 t)

/-- The bias block of a point, zeros past the end of the vocabulary. -/
def bblk (c : Dev nD) (t : Fin grid0.N) : Vec Ideal S3072 .f32 := win0_2.fill (grid0.coords t) (fun _ => (0 : EReal)) (iblk m c 2 t)

/-- The message block of a point. -/
def xblk (c : Dev nD) (t : Fin grid0.N) : Vec Ideal S8x1024 .f32 := iblk m c 0 t

/-- The state after the first `n` points. -/
def stAt (c : Dev nD) : ℕ → St Ideal
  | 0 => St.init
  | n + 1 => if h : n < grid0.N then step (grid0.coords ⟨n, h⟩) (xblk m c ⟨n, h⟩) (wblk m c ⟨n, h⟩) (bblk m c ⟨n, h⟩) (stAt c n) else stAt c n

/-- The state after a point is a step from the state before it. -/
theorem stAt_succ (c : Dev nD) (t : Fin grid0.N) :
    stAt m c (t.val + 1) = step (grid0.coords t) (xblk m c t) (wblk m c t) (bblk m c t) (stAt m c t.val) :=
  dif_pos t.isLt

/-- The four scratch buffers at a state. -/
abbrev scrAt (c : Dev nD) (a : St Ideal) : sProp 𝕄 :=
  scr c (Memref.whole cc0_scratch0) (Memref.whole cc0_scratch1) (Memref.whole cc0_scratch2) (Memref.whole cc0_scratch3) a

/-- Before the first point the scratch buffers hold anything; after `n + 1` points the state. -/
def inv (c : Dev nD) : ℕ → sProp 𝕄
  | 0 => Pipeline.ΦA spec0 c
  | n + 1 => iprop(scrAt c (stAt m c (n + 1)) ∗ ∃ r, prngReg c r)

/-- The data of the run. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => wblk m c t
    | ⟨2, _⟩ => bblk m c t
    | ⟨3, _⟩ => (stAt m c (t.val + 1)).idx
    | ⟨4, _⟩ => k0_pay6 (stAt m c (t.val + 1)).m (stAt m c (t.val + 1)).s
    | ⟨5, _⟩ => k0_pay7 (stAt m c (t.val + 1)).m (stAt m c (t.val + 1)).s (stAt m c (t.val + 1)).t
  Φ t := inv m c t.val
  q _ := fullShare
  owed _ := 0

/-- The windows' arrays are those at the region's entry. -/
theorem A_eq (c : Dev nD) (w : Fin cfg0.W) : (dats m 0 c).A w = V m c (Pipeline.arrRef spec0 w) := by dsimp only [dats]

/-- The body table's row at a point is the body on that point's buffers. -/
theorem defs₀_row (t : Fin cfg0.N) : defs₀ (F := Ideal) .tc cfg0.body (cfg0.bodyArgs t (cfg0.slots t)) = bodyAt0 t := by
  unfold defs₀; rw [Defs.onTc_tc]

/-- What the body finds in the message buffer. -/
theorem before_0 (c : Dev nD) (t : Fin cfg0.N) (d) : (dats m 0 c).before (0 : Fin 6) t d = xblk m c t :=
  before0_0_of m (dats m 0 c) (A_eq m c 0) (fun _ => rfl) t d
/-- What the body finds in the weight buffer: the fetched block, anything past its end. -/
theorem before_1 (c : Dev nD) (t : Fin cfg0.N) (d) :
    (dats m 0 c).before (1 : Fin 6) t d = win0_1.fill (grid0.coords t) d (iblk m c 1 t) := by
  unfold Dat.before; rw [if_pos (Gen.fetch0_1 t)]; rfl
/-- What the body finds in the bias buffer: the fetched block, anything past its end. -/
theorem before_2 (c : Dev nD) (t : Fin cfg0.N) (d) :
    (dats m 0 c).before (2 : Fin 6) t d = win0_2.fill (grid0.coords t) d (iblk m c 2 t) := by
  unfold Dat.before; rw [if_pos (Gen.fetch0_2 t)]; rfl

/-- The conditionals by the point: the first at the first point, the second at the last. -/
theorem conds : ∀ t : Fin grid0.N, (cond1 (grid0.coords t) = 1#1 ↔ t.val = 0) ∧ (k0_cond2 (grid0.coords t) = 1#1 ↔ t.val = 32) := by
  decide +kernel

/-- A step does not depend on what the buffers hold past the end of the vocabulary. -/
theorem step_fill (c : Dev nD) (t : Fin grid0.N) (d1 : Vec Ideal S3072x1024 .f32) (d2 : Vec Ideal S3072 .f32) (a : St Ideal) :
    step (grid0.coords t) (xblk m c t) (win0_1.fill (grid0.coords t) d1 (iblk m c 1 t)) (win0_2.fill (grid0.coords t) d2 (iblk m c 2 t)) a
      = step (grid0.coords t) (xblk m c t) (wblk m c t) (bblk m c t) a :=
  step_congr _ _ _ _ _ _ _ (pay13_fill t _ _ _ _ _ _ _) a

/-- The scratch buffers at anything are the scratch buffers at some state. -/
theorem scratch_some (c : Dev nD) : (Pipeline.scopedRest (Ix := Unit) (Name := ℕ) (U := UR sig nD τ) (Lvl := ℕ) (Val := Elt Ideal) spec0 c : sProp 𝕄) ⊢ iprop(∃ a, scrAt c a) := by
  rw [scopedRest0_eq]; unfold scrAt scr; simp only [owns_whole]
  iintro ⟨⟨%f0, H0⟩, ⟨%f1, H1⟩, ⟨%f2, H2⟩, ⟨%f3, H3⟩⟩
  iexists ⟨f0, f1, f2, f3⟩
  isplitl [H0]; · iexact H0
  isplitl [H1]; · iexact H1
  isplitl [H2]; · iexact H2
  iexact H3

/-- And back. -/
theorem scratch_of (c : Dev nD) (a : St Ideal) : (scrAt c a : sProp 𝕄) ⊢ (Pipeline.scopedRest (Ix := Unit) (Name := ℕ) (U := UR sig nD τ) (Lvl := ℕ) (Val := Elt Ideal) spec0 c : sProp 𝕄) := by
  rw [scopedRest0_eq]; unfold scrAt scr; simp only [owns_whole]
  iintro ⟨H0, H1, H2, H3⟩
  isplitl [H0]; · iexists a.m; iexact H0
  isplitl [H1]; · iexists a.s; iexact H1
  isplitl [H2]; · iexists a.t; iexact H2
  iexists a.idx; iexact H3

/-- The result windows away from the last point: idle, and not written back. -/
theorem idle_of (t : Fin cfg0.N) (h : ¬ t.val = 32) : idle0 3 (grid0.coords t) = true ∧ idle0 4 (grid0.coords t) = true
    ∧ idle0 5 (grid0.coords t) = true ∧ (win0 3).flush t = false ∧ (win0 4).flush t = false ∧ (win0 5).flush t = false := by
  revert t
  exact (by decide +kernel : ∀ t : Fin grid0.N, ¬ t.val = 32 → idle0 3 (grid0.coords t) = true ∧ idle0 4 (grid0.coords t) = true
    ∧ idle0 5 (grid0.coords t) = true ∧ win0_3.flush t = false ∧ win0_4.flush t = false ∧ win0_5.flush t = false)

/-- At the last point they are written. -/
theorem live_of (t : Fin cfg0.N) (h : t.val = 32) : idle0 3 (grid0.coords t) = false ∧ idle0 4 (grid0.coords t) = false
    ∧ idle0 5 (grid0.coords t) = false := by
  revert t
  exact (by decide +kernel : ∀ t : Fin grid0.N, t.val = 32 → idle0 3 (grid0.coords t) = false ∧ idle0 4 (grid0.coords t) = false
    ∧ idle0 5 (grid0.coords t) = false)

set_option maxHeartbeats 4000000 in
/-- Every grid point meets its obligation. -/
theorem body_obligation (c : Dev nD) :
    BodyObligationLoose (dats m 0 c) (defs₀ (F := Ideal)) Variants.none () Set.univ := fun t => by
  rw [bigSep_W0, bigSep_W0, defs₀_row]
  have hw1 : (cfg0.win 1).cut (cfg0.grid.coords t) ((dats m 0 c).after 1 t) = iblk m c 1 t := win0_1.cut_fill _ _ _
  have hw2 : (cfg0.win 2).cut (cfg0.grid.coords t) ((dats m 0 c).after 2 t) = iblk m c 2 t := win0_2.cut_fill _ _ _
  have i0 : cfg0.idle 0 (cfg0.grid.coords t) = false := rfl
  have i1 : cfg0.idle 1 (cfg0.grid.coords t) = false := rfl
  have i2 : cfg0.idle 2 (cfg0.grid.coords t) = false := rfl
  have l0 : cfg0.loose 0 = false := rfl
  have l1 : cfg0.loose 1 = true := rfl
  have l2 : cfg0.loose 2 = true := rfl
  have l3 : cfg0.loose 3 = false := rfl
  have l4 : cfg0.loose 4 = false := rfl
  have l5 : cfg0.loose 5 = false := rfl
  rw [show (dats m 0 c).Φ t.castSucc = inv m c t.val from rfl,
    show (dats m 0 c).Φ t.succ = iprop(scrAt c (stAt m c (t.val + 1)) ∗ ∃ r, prngReg c r) from rfl,
    show (dats m 0 c).owesAt () t.succ = (dats m 0 c).owesAt () t.castSucc from rfl]
  unfold bodyAt0
  by_cases h2 : t.val = 32
  · obtain ⟨e3, e4, e5⟩ := live_of t h2
    simp only [i0, i1, i2, l0, l1, l2, l3, l4, l5, e3, e4, e5, hw1, hw2]
    have h1 : ¬ t.val = 0 := by omega
    rw [show inv m c t.val = iprop(scrAt c (stAt m c t.val) ∗ ∃ r, prngReg c r) by
      obtain ⟨n, hn⟩ := Nat.exists_eq_succ_of_ne_zero h1; rw [hn]; rfl]
    iintro ⟨⟨HS, Hg⟩, Ho, ⟨%d0, H0⟩, ⟨%d1, H1⟩, ⟨%d2, H2⟩, ⟨%d3, H3⟩, ⟨%d4, H4⟩, ⟨%d5, H5⟩⟩
    rw [before_0 m c t d0, before_1 m c t d1, before_2 m c t d2]
    iapply (body_last (F := Ideal) c Set.univ (grid0.coords t) _ _ _ _ _ _ _ _ _ _ _ _ _ _ _ _ _ _ _ _
      (xblk m c t) (win0_1.fill (grid0.coords t) d1 (iblk m c 1 t)) (win0_2.fill (grid0.coords t) d2 (iblk m c 2 t)) (stAt m c t.val)
      _ _ _ (mt (conds t).1.mp h1) ((conds t).2.mpr h2))
    rw [step_fill, ← stAt_succ]
    isplitl [H0 H1 H2]
    · unfold ins
      isplitl [H0]; · iexact H0
      isplitl [H1]; · iexact H1
      iexact H2
    isplitl [HS]; · iexact HS
    isplitl [H3 H4 H5]
    · isplitl [H3]; · iexact H3
      isplitl [H4]; · iexact H4
      iexact H5
    unfold ins
    iintro ⟨⟨H0, H1, H2⟩, HS, ⟨H3, H4, H5⟩⟩
    isplitl [HS Hg]
    · isplitl [HS]; · iexact HS
      iexact Hg
    isplitl [Ho]; · iexact Ho
    isplitl [H0]; · iexact H0
    isplitl [H1]; · iexists d1; iexact H1
    isplitl [H2]; · iexists d2; iexact H2
    isplitl [H3]; · iexact H3
    isplitl [H4]; · iexact H4
    iexact H5
  obtain ⟨e3, e4, e5, f3, f4, f5⟩ := idle_of t h2
  simp only [i0, i1, i2, l0, l1, l2, e3, e4, e5, f3, f4, f5, hw1, hw2]
  have hk : k0_cond2 (grid0.coords t) ≠ 1#1 := mt (conds t).2.mp h2
  by_cases h1 : t.val = 0
  · rw [show inv m c t.val = Pipeline.ΦA spec0 c by rw [h1]; rfl]
    unfold Pipeline.ΦA
    iintro ⟨⟨HS, Hg⟩, Ho, ⟨%d0, H0⟩, ⟨%d1, H1⟩, ⟨%d2, H2⟩, H3, H4, H5⟩
    rw [before_0 m c t d0, before_1 m c t d1, before_2 m c t d2]
    ihave HS := (scratch_some c) $$ HS
    icases HS with ⟨%a, HS⟩
    iapply (body_first (F := Ideal) c Set.univ (grid0.coords t) _ _ _ _ _ _ _ _ _ _ _ _ _ _ _ _ _ _ _ _
      (xblk m c t) (win0_1.fill (grid0.coords t) d1 (iblk m c 1 t)) (win0_2.fill (grid0.coords t) d2 (iblk m c 2 t)) a
      ((conds t).1.mpr h1) hk)
    rw [step_fill, show (St.init : St Ideal) = stAt m c t.val by rw [h1]; rfl, ← stAt_succ]
    isplitl [H0 H1 H2]
    · unfold ins
      isplitl [H0]; · iexact H0
      isplitl [H1]; · iexact H1
      iexact H2
    isplitl [HS]; · iexact HS
    unfold ins
    iintro ⟨⟨H0, H1, H2⟩, HS⟩
    isplitl [HS Hg]
    · isplitl [HS]; · iexact HS
      iexact Hg
    isplitl [Ho]; · iexact Ho
    isplitl [H0]; · iexact H0
    isplitl [H1]; · iexists d1; iexact H1
    isplitl [H2]; · iexists d2; iexact H2
    isplitl [H3]; · iexact H3
    isplitl [H4]; · iexact H4
    iexact H5
  · rw [show inv m c t.val = iprop(scrAt c (stAt m c t.val) ∗ ∃ r, prngReg c r) by
      obtain ⟨n, hn⟩ := Nat.exists_eq_succ_of_ne_zero h1; rw [hn]; rfl]
    iintro ⟨⟨HS, Hg⟩, Ho, ⟨%d0, H0⟩, ⟨%d1, H1⟩, ⟨%d2, H2⟩, H3, H4, H5⟩
    rw [before_0 m c t d0, before_1 m c t d1, before_2 m c t d2]
    iapply (body_mid (F := Ideal) c Set.univ (grid0.coords t) _ _ _ _ _ _ _ _ _ _ _ _ _ _ _ _ _ _ _ _
      (xblk m c t) (win0_1.fill (grid0.coords t) d1 (iblk m c 1 t)) (win0_2.fill (grid0.coords t) d2 (iblk m c 2 t)) (stAt m c t.val)
      (mt (conds t).1.mp h1) hk)
    rw [step_fill, ← stAt_succ]
    isplitl [H0 H1 H2]
    · unfold ins
      isplitl [H0]; · iexact H0
      isplitl [H1]; · iexact H1
      iexact H2
    isplitl [HS]; · iexact HS
    unfold ins
    iintro ⟨⟨H0, H1, H2⟩, HS⟩
    isplitl [HS Hg]
    · isplitl [HS]; · iexact HS
      iexact Hg
    isplitl [Ho]; · iexact Ho
    isplitl [H0]; · iexact H0
    isplitl [H1]; · iexists d1; iexact H1
    isplitl [H2]; · iexists d2; iexact H2
    isplitl [H3]; · iexact H3
    isplitl [H4]; · iexact H4
    iexact H5

set_option backward.isDefEq.respectTransparency.types false in
/-- The whole program runs, to what the pipeline's data name and the lines after it leave. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m)
    (hin := fun _ => BI.Entails.refl _)
    (hout := fun c => by
      rw [show (dats m 0 c).Φ (Fin.last (cfgs 0).N) = iprop(scrAt c (stAt m c 33) ∗ ∃ r, prngReg c r) from rfl]
      unfold Pipeline.ΦA
      iintro ⟨HS, Hg⟩
      isplitl [HS]; · iapply (scratch_of c (stAt m c 33)); iexact HS
      iexact Hg)
    (Q' := _) (hQ' := fun _ h => h)

/-- The frame: the argument arrays end as they started, every semaphore counter at zero. -/
theorem quiescent :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).1 2).trans (((dats m 0 c).arrAt_in 2 rfl _).trans ((A_eq m c 2).trans (V_main_arg2 m c)))⟩, h.2⟩) (run_main m ρ)

/-- The last point. -/
abbrev tl : Fin cfg0.N := ⟨32, by decide⟩

/-- The index array after the run. -/
theorem arr3 (c : Dev nD) : (dats m 0 c).arrAt 3 cfg0.N = (stAt m c 33).idx :=
  (dats m 0 c).arrAt_eq_of_after_last 3 tl (by decide +kernel) _ (fun _ => rfl)
/-- The log-probability array after the run. -/
theorem arr4 (c : Dev nD) : (dats m 0 c).arrAt 4 cfg0.N = k0_pay6 (stAt m c 33).m (stAt m c 33).s :=
  (dats m 0 c).arrAt_eq_of_after_last 4 tl (by decide +kernel) _ (fun _ => rfl)
/-- The entropy array after the run. -/
theorem arr5 (c : Dev nD) : (dats m 0 c).arrAt 5 cfg0.N = k0_pay7 (stAt m c 33).m (stAt m c 33).s (stAt m c 33).t :=
  (dats m 0 c).arrAt_eq_of_after_last 5 tl (by decide +kernel) _ (fun _ => rfl)

/-- A column of eight as a vector of eight. -/
def flat {e : EltTy} (x : Vec Ideal S8x1 e) : Vec Ideal S8 e := shapeCast S8 x shapeCasts_S8x1_S8

variable (c : Dev nD)

/-- The first result is the index column, flattened. -/
theorem tail2 : Pipeline.afterTail₀ cfgs (dats m) 0 (V0 m) [hostOps1] c main_v2 = flat (stAt m c 33).idx := by
  unfold Pipeline.afterTail₀
  simp only [hostOps1, List.flatten_cons, List.flatten_nil, List.append_nil]
  after_results
  rw [← arr3 m c, ← Pipeline.withArrays_arr spec0 launch0.win.arr_inj c (V0 m c) (fun w => (dats m 0 c).arrAt w cfg0.N) 3]
  rfl
/-- The second result is the log probability column, flattened. -/
theorem tail3 : Pipeline.afterTail₀ cfgs (dats m) 0 (V0 m) [hostOps1] c main_v3 = flat (k0_pay6 (stAt m c 33).m (stAt m c 33).s) := by
  unfold Pipeline.afterTail₀
  simp only [hostOps1, List.flatten_cons, List.flatten_nil, List.append_nil]
  after_results
  rw [← arr4 m c, ← Pipeline.withArrays_arr spec0 launch0.win.arr_inj c (V0 m c) (fun w => (dats m 0 c).arrAt w cfg0.N) 4]
  rfl
/-- The third result is the entropy column, flattened. -/
theorem tail4 : Pipeline.afterTail₀ cfgs (dats m) 0 (V0 m) [hostOps1] c main_v4
    = flat (k0_pay7 (stAt m c 33).m (stAt m c 33).s (stAt m c 33).t) := by
  unfold Pipeline.afterTail₀
  simp only [hostOps1, List.flatten_cons, List.flatten_nil, List.append_nil]
  after_results
  rw [← arr5 m c, ← Pipeline.withArrays_arr spec0 launch0.win.arr_inj c (V0 m c) (fun w => (dats m 0 c).arrAt w cfg0.N) 5]
  rfl

/-- The run: the three results are the index, the log probability and the entropy of the state after the last point. -/
theorem run :
    θ_run defs (onTc (τ := τ) (main (F := Ideal))) ⟨m, fun _ => 0, ρ⟩ (fun r => ∀ c : Dev nD,
      r.2.mem ((c.tc : Thread nD τ).loc main_v2) = flat (stAt m c 33).idx
      ∧ r.2.mem ((c.tc : Thread nD τ).loc main_v3) = flat (k0_pay6 (stAt m c 33).m (stAt m c 33).s)
      ∧ r.2.mem ((c.tc : Thread nD τ).loc main_v4) = flat (k0_pay7 (stAt m c 33).m (stAt m c 33).s (stAt m c 33).t)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v2 (Pipeline.mem_restRefs_of main_v2 (by decide) (by decide))).trans (tail2 m c),
      ((h.1 c).2 main_v3 (Pipeline.mem_restRefs_of main_v3 (by decide) (by decide))).trans (tail3 m c),
      ((h.1 c).2 main_v4 (Pipeline.mem_restRefs_of main_v4 (by decide) (by decide))).trans (tail4 m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).1 2).trans (((dats m 0 c).arrAt_in 2 rfl _).trans ((A_eq m c 2).trans (V_main_arg2 m c)))⟩) (run_main m ρ)

end Cert.KernelIdeal.Stream

end
-- ==== Proof.Ideal.Step.lean ====
module

public import proofs.«01_k».proof.Proof.Ideal.Block

/-!
# One step of the kernel, read at a row

Each of the four running values after a grid point, at row `r`, as a plain formula of the values before it and of the
point's masked logits `k0_pay13`.
-/

@[expose] public section

set_option maxRecDepth 16384

noncomputable section

namespace Cert.KernelIdeal.Stream

open Cert.KernelIdeal Cert.KernelIdeal.Gen
open Idealize.ShloMosaic

variable (i : grid0.Coords) (x1 : Vec Ideal S8x1024 .f32) (x2 : Vec Ideal S3072x1024 .f32) (x3 : Vec Ideal S3072 .f32)
  (a : St Ideal) (r : Fin 8)

/-- The pattern of minus infinity is the least extended real. -/
theorem ofBits_neg_inf : Ideal.ofBits FTy.f32 4286578688#32 = ⊥ := by
  simp [Ideal.ofBits, Ideal.ieee]

/-- The block's maximum, at a row. -/
theorem pay14_apply : k0_pay14 i x1 x2 x3 (ix2 r 0)
    = Finset.univ.fold max ⊥ (fun l => k0_pay13 i x1 x2 x3 (ix2 r l)) := by
  rw [← ofBits_neg_inf]
  pointwise! [k0_pay14]

/-- The least entry of a row of words. -/
theorem minRow_apply (v : IVec S8x3072 32) :
    shapeCast S8x1 (multiReductionI .minsi [1] S8 v 2147483647#32 reduces_S8x3072_S8 rfl) shapeCasts_S8_S8x1 (ix2 r 0)
      = Finset.univ.fold IntOp.minsi 2147483647#32 (fun l => v (ix2 r l)) := by
  pointwise

/-- The block's least column number at its maximum, at a row. -/
theorem pay15_apply : k0_pay15 i x1 x2 x3 (ix2 r 0)
    = Finset.univ.fold IntOp.minsi 2147483647#32 (fun l : Fin 3072 =>
      if k0_pay13 i x1 x2 x3 (ix2 r l) = k0_pay14 i x1 x2 x3 (ix2 r 0) then k0_pay12 i (ix2 r l) else 2147483647#32) := by
  unfold k0_pay15
  refine (minRow_apply r _).trans ?_
  congr 1
  funext l
  pointwise

/-- The running maximum after a step. -/
theorem step_m : (step i x1 x2 x3 a).m (ix2 r 0) = max (a.m (ix2 r 0)) (k0_pay14 i x1 x2 x3 (ix2 r 0)) := by
  pointwise! [step, k0_pay3, k0_pay16]

/-- The new maximum is the larger of the old one and the block's. -/
theorem pay16_apply (m : Vec Ideal S8x1 .f32) :
    k0_pay16 i x1 x2 x3 m (ix2 r 0) = max (m (ix2 r 0)) (k0_pay14 i x1 x2 x3 (ix2 r 0)) := by
  pointwise! [k0_pay16]

/-- The running sum of exponentials after a step. -/
theorem step_s : (step i x1 x2 x3 a).s (ix2 r 0)
    = a.s (ix2 r 0) * Ideal.exp (a.m (ix2 r 0) - max (a.m (ix2 r 0)) (k0_pay14 i x1 x2 x3 (ix2 r 0)))
      + ∑ l, Ideal.exp (k0_pay13 i x1 x2 x3 (ix2 r l) - max (a.m (ix2 r 0)) (k0_pay14 i x1 x2 x3 (ix2 r 0))) := by
  rw [← pay16_apply i x1 x2 x3 r a.m]
  pointwise! [step, k0_pay1, k0_pay17, k0_pay18]

/-- The running weighted sum after a step. -/
theorem step_t : (step i x1 x2 x3 a).t (ix2 r 0)
    = a.t (ix2 r 0) * Ideal.exp (a.m (ix2 r 0) - max (a.m (ix2 r 0)) (k0_pay14 i x1 x2 x3 (ix2 r 0)))
      + ∑ l, k0_pay13 i x1 x2 x3 (ix2 r l)
        * Ideal.exp (k0_pay13 i x1 x2 x3 (ix2 r l) - max (a.m (ix2 r 0)) (k0_pay14 i x1 x2 x3 (ix2 r 0))) := by
  rw [← pay16_apply i x1 x2 x3 r a.m]
  pointwise! [step, k0_pay2, k0_pay17, k0_pay18]

/-- The running column after a step. -/
theorem step_idx : (step i x1 x2 x3 a).idx (ix2 r 0)
    = Scalar.select (IntOp.ori (BitVec.ofBool (decide (a.m (ix2 r 0) < k0_pay14 i x1 x2 x3 (ix2 r 0))))
        (IntOp.andi (BitVec.ofBool (decide (k0_pay14 i x1 x2 x3 (ix2 r 0) = a.m (ix2 r 0))))
          (IntOp.cmpi .slt (k0_pay15 i x1 x2 x3 (ix2 r 0)) (a.idx (ix2 r 0)))))
        (k0_pay15 i x1 x2 x3 (ix2 r 0)) (a.idx (ix2 r 0)) := by
  pointwise! [step, k0_pay4]

/-- The starting maximum is minus infinity. -/
theorem init_m : (St.init : St Ideal).m (ix2 r 0) = ⊥ := by
  pointwise! [St.init, k0_pay8]

/-- The starting sum is zero. -/
theorem init_s : (St.init : St Ideal).s (ix2 r 0) = 0 := by
  pointwise! [St.init, k0_pay9]

/-- The starting weighted sum is zero. -/
theorem init_t : (St.init : St Ideal).t (ix2 r 0) = 0 := by
  pointwise! [St.init, k0_pay9, k0_pay10]

/-- The closing log probability, at a row. -/
theorem pay6_apply (m s : Vec Ideal S8x1 .f32) :
    k0_pay6 m s (ix2 r 0) = m (ix2 r 0) - (m (ix2 r 0) + Ideal.log (s (ix2 r 0))) := by
  pointwise! [k0_pay6, k0_pay5]

/-- The closing entropy, at a row. -/
theorem pay7_apply (m s t : Vec Ideal S8x1 .f32) :
    k0_pay7 m s t (ix2 r 0)
      = m (ix2 r 0) + Ideal.log (s (ix2 r 0)) - Ideal.div (t (ix2 r 0)) (s (ix2 r 0)) := by
  pointwise! [k0_pay7, k0_pay5]

end Cert.KernelIdeal.Stream

end
-- ==== Proof.Math.Online.lean ====
module

public import Idealize.ShloMosaic.Lib.Pointwise
public import Idealize.ShloMosaic.Lib.WordCmp

/-!
# The running row reductions, on the reals

A row of logits is a function `x : ℕ → ℝ`. This file states what the running maximum, the running sums and the running
first-argmax hold after a set `C` of columns has been read, and shows that reading one more block of columns keeps it so.
-/

@[expose] public section

noncomputable section

namespace Cert.Online

open Idealize.ShloMosaic

/-- Column `k` is the first of the columns `C` at which `x` is largest. -/
structure First (x : ℕ → ℝ) (C : Finset ℕ) (k : ℕ) : Prop where
  mem : k ∈ C
  ge : ∀ j ∈ C, x j ≤ x k
  first : ∀ j ∈ C, x j = x k → k ≤ j

/-- The sum over the columns `C` of the exponentials of `x`, taken relative to `M`. -/
def mass (x : ℕ → ℝ) (C : Finset ℕ) (M : ℝ) : ℝ := ∑ j ∈ C, Real.exp (x j - M)

/-- The sum over the columns `C` of `x` weighted by its exponential, taken relative to `M`. -/
def heat (x : ℕ → ℝ) (C : Finset ℕ) (M : ℝ) : ℝ := ∑ j ∈ C, x j * Real.exp (x j - M)

/-- A nonempty set of columns has a first largest one. -/
theorem exists_first (x : ℕ → ℝ) (C : Finset ℕ) (h : C.Nonempty) : ∃ k, First x C k := by
  obtain ⟨k, hk, hmax⟩ := C.exists_max_image x h
  have hne : (C.filter fun j => x j = x k).Nonempty := ⟨k, by simp [hk]⟩
  have hmem := Finset.min'_mem _ hne
  rw [Finset.mem_filter] at hmem
  exact ⟨_, hmem.1, fun j hj => (hmax j hj).trans_eq hmem.2.symm,
    fun j hj e => Finset.min'_le _ _ (by rw [Finset.mem_filter]; exact ⟨hj, e.trans hmem.2⟩)⟩

/-- There is only one first largest column. -/
theorem First.unique {x : ℕ → ℝ} {C : Finset ℕ} {k k' : ℕ} (h : First x C k) (h' : First x C k') : k = k' := by
  have e : x k = x k' := le_antisymm (h'.ge k h.mem) (h.ge k' h'.mem)
  exact le_antisymm (h.first k' h'.mem e.symm) (h'.first k h.mem e)

/-- The first largest column of a union: the one of the two parts' that wins, the earlier on a tie. -/
theorem First.union {x : ℕ → ℝ} {C B : Finset ℕ} {k b : ℕ} (h : First x C k) (h' : First x B b) :
    First x (C ∪ B) (if x k < x b ∨ (x b = x k ∧ b < k) then b else k) := by
  split
  · rename_i hc
    refine ⟨Finset.mem_union_right _ h'.mem, fun j hj => ?_, fun j hj e => ?_⟩
    · rcases Finset.mem_union.1 hj with hj | hj
      · have := h.ge j hj
        rcases hc with hc | hc
        · linarith
        · linarith [hc.1]
      · exact h'.ge j hj
    · rcases Finset.mem_union.1 hj with hj | hj
      · have := h.ge j hj
        rcases hc with hc | hc
        · linarith
        · exact le_trans hc.2.le (h.first j hj (by linarith [hc.1]))
      · exact h'.first j hj e
  · rename_i hc
    push Not at hc
    refine ⟨Finset.mem_union_left _ h.mem, fun j hj => ?_, fun j hj e => ?_⟩
    · rcases Finset.mem_union.1 hj with hj | hj
      · exact h.ge j hj
      · exact le_trans (h'.ge j hj) hc.1
    · rcases Finset.mem_union.1 hj with hj | hj
      · exact h.first j hj e
      · have hb := h'.ge j hj
        have he : x b = x k := le_antisymm hc.1 (by linarith)
        exact le_trans (hc.2 he) (h'.first j hj (by linarith))

/-- The larger of the two parts' maxima is the value at the winner. -/
theorem max_winner (x : ℕ → ℝ) (k b : ℕ) :
    max (x k) (x b) = x (if x k < x b ∨ (x b = x k ∧ b < k) then b else k) := by
  split
  · rename_i hc
    rcases hc with hc | hc
    · exact max_eq_right hc.le
    · rw [hc.1, max_self]
  · rename_i hc
    push Not at hc
    exact max_eq_left hc.1

/-- Rescaling the sum of exponentials to another reference value. -/
theorem mass_scale (x : ℕ → ℝ) (C : Finset ℕ) (a M : ℝ) : mass x C a * Real.exp (a - M) = mass x C M := by
  unfold mass
  rw [Finset.sum_mul]
  exact Finset.sum_congr rfl fun j _ => by rw [← Real.exp_add]; congr 1; ring

/-- Rescaling the weighted sum to another reference value. -/
theorem heat_scale (x : ℕ → ℝ) (C : Finset ℕ) (a M : ℝ) : heat x C a * Real.exp (a - M) = heat x C M := by
  unfold heat
  rw [Finset.sum_mul]
  exact Finset.sum_congr rfl fun j _ => by rw [mul_assoc, ← Real.exp_add]; congr 2; ring

/-- The sum of exponentials over a nonempty set is positive. -/
theorem mass_pos {x : ℕ → ℝ} {C : Finset ℕ} {k : ℕ} (h : k ∈ C) (M : ℝ) : 0 < mass x C M :=
  Finset.sum_pos (fun _ _ => Real.exp_pos _) ⟨k, h⟩

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The columns of block `b`: 3072 of them, fewer where the row's 100000 columns end. -/
def cols (b : ℕ) : Finset ℕ := Finset.Ico (b * 3072) (min (b * 3072 + 3072) 100000)

/-- Which columns a block has. -/
theorem mem_cols {b j : ℕ} : j ∈ cols b ↔ b * 3072 ≤ j ∧ j < b * 3072 + 3072 ∧ j < 100000 := by
  simp [cols]

/-- Every column of a block is a lane of it. -/
theorem lane {b j : ℕ} (h : j ∈ cols b) : ∃ l : Fin 3072, b * 3072 + l.val = j := by
  rw [mem_cols] at h
  exact ⟨⟨j - b * 3072, by omega⟩, by show b * 3072 + (j - b * 3072) = j; omega⟩

/-- A lane before the row's end is a column of its block. -/
theorem lane_mem {b : ℕ} {l : Fin 3072} (h : b * 3072 + l.val < 100000) : b * 3072 + l.val ∈ cols b := by
  rw [mem_cols]; omega

/-- A block's logits: the row's, and minus infinity past the row's end. -/
def lanes (x : ℕ → ℝ) (b : ℕ) (l : Fin 3072) : EReal :=
  if b * 3072 + l.val < 100000 then ((x (b * 3072 + l.val) : ℝ) : EReal) else ⊥

/-- The maximum over a block's lanes is the row's value at the block's first largest column. -/
theorem fold_max {x : ℕ → ℝ} {b k : ℕ} (h : First x (cols b) k) :
    Finset.univ.fold max ⊥ (lanes x b) = ((x k : ℝ) : EReal) := by
  refine le_antisymm (Finset.fold_max_le _ |>.2 ⟨bot_le, fun l _ => ?_⟩) (Finset.le_fold_max _ |>.2 (Or.inr ?_))
  · unfold lanes
    split
    · rename_i hl
      exact EReal.coe_le_coe_iff.2 (h.ge _ (lane_mem hl))
    · exact bot_le
  · obtain ⟨l, hl⟩ := lane h.mem
    refine ⟨l, Finset.mem_univ _, ?_⟩
    have := mem_cols.1 h.mem
    unfold lanes
    rw [if_pos (by omega), hl]

/-- A word below `2 ^ 31` reads signed as the number it holds. -/
theorem toInt_small {n : ℕ} (h : n < 2147483648) : (BitVec.ofNat 32 n).toInt = (n : ℤ) := by
  rw [BitVec.toInt_eq_toNat_of_lt] <;> rw [BitVec.toNat_ofNat] <;> omega

/-- The signed minimum of two words, read signed. -/
theorem toInt_minsi (a b : BitVec 32) : (IntOp.minsi a b).toInt = min a.toInt b.toInt := by
  unfold IntOp.minsi
  rw [BitVec.slt_eq_decide]
  by_cases hab : a.toInt < b.toInt
  · simp [hab, hab.le]
  · simp only [hab, decide_false, Bool.false_eq_true, if_false]
    omega

/-- The least column number among a block's largest lanes is the block's first largest column. -/
theorem fold_min {x : ℕ → ℝ} {b k : ℕ} (hb : b ≤ 32) (h : First x (cols b) k) :
    Finset.univ.fold IntOp.minsi 2147483647#32 (fun l : Fin 3072 =>
      if lanes x b l = ((x k : ℝ) : EReal) then BitVec.ofNat 32 (b * 3072 + l.val) else 2147483647#32) = BitVec.ofNat 32 k := by
  have hk := mem_cols.1 h.mem
  apply BitVec.eq_of_toInt_eq
  rw [← Finset.fold_hom (op := IntOp.minsi) (op' := min) (m := BitVec.toInt) toInt_minsi, toInt_small (n := k) (by omega)]
  refine le_antisymm (Finset.fold_min_le _ |>.2 (Or.inr ?_)) (Finset.le_fold_min _ |>.2 ⟨?_, fun l _ => ?_⟩)
  · obtain ⟨l, hl⟩ := lane h.mem
    refine ⟨l, Finset.mem_univ _, ?_⟩
    rw [if_pos (by unfold lanes; rw [if_pos (by omega), hl]), hl, toInt_small (by omega)]
  · rw [show (2147483647#32 : BitVec 32).toInt = 2147483647 by decide]
    omega
  · split
    · rename_i hl
      unfold lanes at hl
      split at hl
      · rename_i hr
        rw [toInt_small (n := b * 3072 + l.val) (by omega)]
        exact_mod_cast h.first _ (lane_mem hr) (EReal.coe_eq_coe_iff.1 hl)
      · exact absurd hl.symm (EReal.coe_ne_bot _)
    · rw [show (2147483647#32 : BitVec 32).toInt = 2147483647 by decide]
      omega

/-- A sum over a block's lanes of a quantity that is zero past the row's end is the sum over the block's columns. -/
theorem sum_lanes (b : ℕ) (G : ℕ → ℝ) (g : Fin 3072 → EReal)
    (hg : ∀ l, g l = if b * 3072 + l.val < 100000 then ((G (b * 3072 + l.val) : ℝ) : EReal) else 0) :
    ∑ l, g l = ((∑ j ∈ cols b, G j : ℝ) : EReal) := by
  have e : ∀ l, g l = (((fun i : ℕ => if b * 3072 + i < 100000 then G (b * 3072 + i) else 0) l.val : ℝ) : EReal) := by
    intro l
    rw [hg]
    dsimp only
    split <;> simp
  rw [Finset.sum_congr rfl fun l _ => e l, ← coe_sum, Fin.sum_univ_eq_sum_range
    (fun i : ℕ => if b * 3072 + i < 100000 then G (b * 3072 + i) else 0) 3072, ← Finset.sum_filter, cols,
    Finset.sum_Ico_eq_sum_range]
  congr 2
  ext i
  simp only [Finset.mem_filter, Finset.mem_range]
  omega

/-- The exponential of a difference of reals. -/
theorem exp_coe_sub (a b : ℝ) : Ideal.exp ((a : EReal) - (b : EReal)) = ((Real.exp (a - b) : ℝ) : EReal) := by
  rw [← EReal.coe_sub]
  rfl

/-- The exponential of minus infinity is zero. -/
theorem exp_bot_sub (b : ℝ) : Ideal.exp ((⊥ : EReal) - (b : EReal)) = 0 := by
  rw [EReal.bot_sub]
  rfl

/-- The sum of a block's exponentials. -/
theorem sum_exp (x : ℕ → ℝ) (b : ℕ) (M : ℝ) :
    ∑ l, Ideal.exp (lanes x b l - (M : EReal)) = ((mass x (cols b) M : ℝ) : EReal) := by
  refine sum_lanes b (fun j => Real.exp (x j - M)) _ fun l => ?_
  unfold lanes
  split
  · exact exp_coe_sub _ _
  · exact exp_bot_sub _

/-- The sum of a block's weighted exponentials. -/
theorem sum_mul_exp (x : ℕ → ℝ) (b : ℕ) (M : ℝ) :
    ∑ l, lanes x b l * Ideal.exp (lanes x b l - (M : EReal)) = ((heat x (cols b) M : ℝ) : EReal) := by
  refine sum_lanes b (fun j => x j * Real.exp (x j - M)) _ fun l => ?_
  unfold lanes
  split
  · rw [exp_coe_sub, ← EReal.coe_mul]
  · rw [exp_bot_sub, mul_zero]

/-- What the four running values of a row are once the columns `C` have been read. -/
def Good (x : ℕ → ℝ) (C : Finset ℕ) (m s t : EReal) (i : BitVec 32) : Prop :=
  ∃ k, First x C k ∧ m = ((x k : ℝ) : EReal) ∧ s = ((mass x C (x k) : ℝ) : EReal)
    ∧ t = ((heat x C (x k) : ℝ) : EReal) ∧ i = BitVec.ofNat 32 k

/-- The block's maximum. -/
def top (x : ℕ → ℝ) (b : ℕ) : EReal := Finset.univ.fold max ⊥ (lanes x b)

/-- The block's least column number at its maximum. -/
def arg (x : ℕ → ℝ) (b : ℕ) : BitVec 32 :=
  Finset.univ.fold IntOp.minsi 2147483647#32 (fun l : Fin 3072 =>
    if lanes x b l = top x b then BitVec.ofNat 32 (b * 3072 + l.val) else 2147483647#32)

/-- The choice between the running column and the block's. -/
def pick (m n : EReal) (i j : BitVec 32) : BitVec 32 :=
  Scalar.select (IntOp.ori (BitVec.ofBool (decide (m < n)))
    (IntOp.andi (BitVec.ofBool (decide (n = m))) (IntOp.cmpi .slt j i))) j i

/-- The block's maximum is the row's value at the block's first largest column. -/
theorem top_eq {x : ℕ → ℝ} {b k : ℕ} (h : First x (cols b) k) : top x b = ((x k : ℝ) : EReal) := fold_max h

/-- The block's least column number at its maximum is that column. -/
theorem arg_eq {x : ℕ → ℝ} {b k : ℕ} (hb : b ≤ 32) (h : First x (cols b) k) : arg x b = BitVec.ofNat 32 k := by
  unfold arg
  rw [top_eq h]
  exact fold_min hb h

/-- A block in range has a column. -/
theorem cols_nonempty {b : ℕ} (hb : b ≤ 32) : (cols b).Nonempty := ⟨b * 3072, by rw [mem_cols]; omega⟩

/-- The choice, at column numbers: the winner of the two. -/
theorem pick_eq (p q : ℝ) {k j : ℕ} (hk : k < 2147483648) (hj : j < 2147483648) :
    pick (p : EReal) (q : EReal) (BitVec.ofNat 32 k) (BitVec.ofNat 32 j)
      = BitVec.ofNat 32 (if p < q ∨ (q = p ∧ j < k) then j else k) := by
  unfold pick
  have hs : IntOp.cmpi .slt (BitVec.ofNat 32 j) (BitVec.ofNat 32 k) = BitVec.ofBool (decide (j < k)) :=
    WordCmp.cmpi_slt_ofNat hj hk
  rw [hs]
  simp only [EReal.coe_lt_coe_iff, EReal.coe_eq_coe_iff]
  by_cases h1 : p < q <;> by_cases h2 : q = p <;> by_cases h3 : j < k <;>
    simp [h1, h2, h3, IntOp.ori, IntOp.andi, Scalar.select]

/-- Reading the first block. -/
theorem good_first (x : ℕ → ℝ) {b : ℕ} (hb : b ≤ 32) (i : BitVec 32) :
    Good x (cols b) (max ⊥ (top x b))
      (0 * Ideal.exp (⊥ - max ⊥ (top x b)) + ∑ l, Ideal.exp (lanes x b l - max ⊥ (top x b)))
      (0 * Ideal.exp (⊥ - max ⊥ (top x b)) + ∑ l, lanes x b l * Ideal.exp (lanes x b l - max ⊥ (top x b)))
      (pick ⊥ (top x b) i (arg x b)) := by
  obtain ⟨k, hk⟩ := exists_first x _ (cols_nonempty hb)
  refine ⟨k, hk, ?_⟩
  rw [top_eq hk, arg_eq hb hk, max_eq_right bot_le, zero_mul, zero_add, zero_add, sum_exp, sum_mul_exp]
  refine ⟨rfl, rfl, rfl, ?_⟩
  unfold pick
  simp [EReal.bot_lt_coe, IntOp.ori, IntOp.andi, Scalar.select]

/-- Reading one more block, none of whose columns has been read before. -/
theorem good_next {x : ℕ → ℝ} {b : ℕ} (hb : b ≤ 32) {C : Finset ℕ} (hC : ∀ j ∈ C, j < 100000) (hd : Disjoint C (cols b))
    {m s t : EReal} {i : BitVec 32} (h : Good x C m s t i) :
    Good x (C ∪ cols b) (max m (top x b))
      (s * Ideal.exp (m - max m (top x b)) + ∑ l, Ideal.exp (lanes x b l - max m (top x b)))
      (t * Ideal.exp (m - max m (top x b)) + ∑ l, lanes x b l * Ideal.exp (lanes x b l - max m (top x b)))
      (pick m (top x b) i (arg x b)) := by
  obtain ⟨k, hk, rfl, rfl, rfl, rfl⟩ := h
  obtain ⟨q, hq⟩ := exists_first x _ (cols_nonempty hb)
  refine ⟨_, hk.union hq, ?_⟩
  have hq' := mem_cols.1 hq.mem
  have hk' := hC k hk.mem
  have hm : max ((x k : ℝ) : EReal) ((x q : ℝ) : EReal)
      = ((x (if x k < x q ∨ (x q = x k ∧ q < k) then q else k) : ℝ) : EReal) := by
    refine Eq.trans ?_ (congrArg _ (max_winner x k q))
    exact (Monotone.map_max EReal.coe_strictMono.monotone).symm
  rw [top_eq hq, arg_eq hb hq, hm, sum_exp, sum_mul_exp, exp_coe_sub, ← EReal.coe_mul, ← EReal.coe_mul, mass_scale,
    heat_scale, ← EReal.coe_add, ← EReal.coe_add, pick_eq _ _ (by omega) (by omega)]
  refine ⟨rfl, ?_, ?_, rfl⟩
  · unfold mass
    rw [Finset.sum_union hd]
  · unfold heat
    rw [Finset.sum_union hd]

/-- The logarithm of a positive real. -/
theorem log_coe {a : ℝ} (h : 0 < a) : Ideal.log (a : EReal) = ((Real.log a : ℝ) : EReal) :=
  if_neg (not_le.2 h)

/-- The log probability of a row's column `j`, for the maximum `M` over the columns `C`. -/
def logProb (x : ℕ → ℝ) (C : Finset ℕ) (M : ℝ) (j : ℕ) : ℝ := x j - M - Real.log (mass x C M)

/-- The two closing formulas: the log probability of the chosen column and the entropy. -/
theorem good_end {x : ℕ → ℝ} {C : Finset ℕ} {m s t : EReal} {i : BitVec 32} (h : Good x C m s t i) :
    ∃ k, First x C k ∧ i = BitVec.ofNat 32 k ∧ m - (m + Ideal.log s) = ((logProb x C (x k) k : ℝ) : EReal)
      ∧ m + Ideal.log s - Ideal.div t s
        = ((-∑ j ∈ C, Real.exp (logProb x C (x k) j) * logProb x C (x k) j : ℝ) : EReal) := by
  obtain ⟨k, hk, rfl, rfl, rfl, rfl⟩ := h
  have hS := mass_pos hk.mem (x := x) (x k)
  refine ⟨k, hk, rfl, ?_, ?_⟩
  · rw [log_coe hS, ← EReal.coe_add, ← EReal.coe_sub]
    congr 1
    unfold logProb
    ring
  · rw [log_coe hS, Ideal.div_coe hS.ne', ← EReal.coe_add, ← EReal.coe_mul, ← EReal.coe_sub]
    congr 1
    have e : ∀ j ∈ C, Real.exp (logProb x C (x k) j) * logProb x C (x k) j
        = (x j * Real.exp (x j - x k)) * (1 / mass x C (x k))
          - Real.exp (x j - x k) * ((x k + Real.log (mass x C (x k))) * (1 / mass x C (x k))) := by
      intro j _
      unfold logProb
      rw [Real.exp_sub, Real.exp_log hS]
      ring
    rw [Finset.sum_congr rfl e, Finset.sum_sub_distrib, ← Finset.sum_mul, ← Finset.sum_mul]
    change _ = -(heat x C (x k) * _ - mass x C (x k) * _)
    field_simp
    ring

end Cert.Online

end
-- ==== Proof.Math.Row.lean ====
module

public import proofs.«01_k».proof.Proof.Math.Online

/-!
# A row of logits of finite arguments

The logits of arguments whose entries are all real, as functions of the column number, and the order in which the blocks of
columns are read.
-/

@[expose] public section

set_option maxRecDepth 16384

noncomputable section

namespace Cert.Online

open Idealize.ShloMosaic

/-- Every entry is a real number. -/
def Finite {ι : Type*} (x : ι → EReal) : Prop := ∀ i, x i ≠ ⊤ ∧ x i ≠ ⊥

/-- A finite entry is the real it reads as. -/
theorem Finite.coe {ι : Type*} {x : ι → EReal} (h : Finite x) (i : ι) : (((x i).toReal : ℝ) : EReal) = x i :=
  EReal.coe_toReal (h i).1 (h i).2

variable (x : (⟨2, ![8, 1024]⟩ : Shape).Idx → EReal) (w : (⟨2, ![1024, 100000]⟩ : Shape).Idx → EReal)
  (b : (⟨1, ![100000]⟩ : Shape).Idx → EReal)

/-- The logit of row `r` at column `j`, on the reals. -/
def row (r : Fin 8) (j : ℕ) : ℝ :=
  if h : j < 100000 then (∑ k : Fin 1024, (x (ix2 r k)).toReal * (w (ix2 k ⟨j, h⟩)).toReal) + (b (ix1 ⟨j, h⟩)).toReal else 0

/-- The product plus the bias, of finite arguments, is that real. -/
theorem row_eq (hx : Finite x) (hw : Finite w) (hb : Finite b) (r : Fin 8) (j : ℕ) (h : j < 100000) :
    (∑ k : Fin 1024, x (ix2 r k) * w (ix2 k ⟨j, h⟩)) + b (ix1 ⟨j, h⟩) = ((row x w b r j : ℝ) : EReal) := by
  unfold row
  rw [dif_pos h, EReal.coe_add, coe_sum, hb.coe]
  refine congrArg (· + _) (Finset.sum_congr rfl fun k _ => ?_)
  rw [EReal.coe_mul, hx.coe, hw.coe]

/-- The columns read after the first point and `n` more: the last block, then the others in order. -/
def seen : ℕ → Finset ℕ
  | 0 => cols 32
  | n + 1 => seen n ∪ cols n

/-- Which columns have been read. -/
theorem mem_seen (n : ℕ) (hn : n ≤ 32) (j : ℕ) : j ∈ seen n ↔ j ∈ cols 32 ∨ j < n * 3072 := by
  induction n with
  | zero => simp [seen]
  | succ n ih =>
    rw [seen, Finset.mem_union, ih (by omega), mem_cols, mem_cols]
    omega

/-- Every column is read in the end. -/
theorem seen_all : seen 32 = Finset.range 100000 := by
  ext j
  rw [mem_seen 32 le_rfl, mem_cols, Finset.mem_range]
  omega

/-- Every column read lies in the row. -/
theorem seen_lt {n : ℕ} (hn : n ≤ 32) : ∀ j ∈ seen n, j < 100000 := by
  intro j hj
  rw [mem_seen n hn, mem_cols] at hj
  omega

/-- A block is read once. -/
theorem seen_disjoint {n : ℕ} (hn : n < 32) : Disjoint (seen n) (cols n) := by
  rw [Finset.disjoint_left]
  intro j hj hj'
  rw [mem_seen n hn.le, mem_cols] at hj
  rw [mem_cols] at hj'
  omega

end Cert.Online

end
-- ==== Proof.Ideal.Rows.lean ====
module

public import proofs.«01_k».proof.Proof.Ideal.Run
public import proofs.«01_k».proof.Proof.Ideal.Step
public import proofs.«01_k».proof.Proof.Math.Row

/-!
# The kernel's results, row by row

The blocks a point reads as parts of the arguments, its masked logits as lanes of the row's logits, and the four running
values after any number of points, for arguments whose entries are all real.
-/

@[expose] public section

set_option maxRecDepth 16384

noncomputable section

namespace Cert.KernelIdeal.Stream

open Cert.KernelIdeal Cert.KernelIdeal.Gen
open Idealize.ShloMosaic Idealize.ShloMosaic.TcCoe
open Cert.Online

variable (m : (ℓ : Loc nD τ sig) → Buf (Elt Ideal) ℓ) (c : Dev nD) (t : Fin grid0.N)

/-! ## The blocks -/

/-- The message window stays at block zero. -/
theorem index0 : ∀ t : Fin grid0.N, win0_0.index t 0 = 0 ∧ win0_0.index t 1 = 0 := by decide +kernel

/-- The weight window is at the point's block. -/
theorem index1 : win0_1.index t 0 = blk t ∧ win0_1.index t 1 = 0 := ⟨(index_eq t).1, (index_eq t).2.1⟩

/-- The bias window is at the point's block. -/
theorem index2 : win0_2.index t 0 = blk t := (index_eq t).2.2

/-- The array the weight blocks come from is the weights transposed. -/
theorem V_main_v0 (k : Fin 1024) (j : Fin 100000) :
    V m c main_v0 (ix2 j k) = m ((c : Thread nD τ).loc main_arg1) (ix2 k j) := by
  have h : V m c main_v0
      = transpose S100000x1024 [1, 0] (m ((c : Thread nD τ).loc main_arg1)) transposes_S1024x100000_S100000x1024_1_0 := by
    show StableHlo.after [hostOps0].flatten (fun b => m (c, b)) (Proc.tc.devRef main_v0) = _
    simp only [hostOps0, List.flatten_cons, List.flatten_nil, List.append_nil]
    after_results
  rw [h]
  pointwise

/-- The message block is the message. -/
theorem xblk_apply (r : Fin 8) (k : Fin 1024) : xblk m c t (ix2 r k) = m ((c : Thread nD τ).loc main_arg0) (ix2 r k) := by
  unfold xblk
  blk_ext [iblk, V_main_arg0, (index0 t).1, (index0 t).2]
  all_goals omega

/-- A row of the weight block inside the vocabulary is a column of the weights. -/
theorem wblk_apply (l : Fin 3072) (k : Fin 1024) (h : blk t * 3072 + l.val < 100000) :
    wblk m c t (ix2 l k) = m ((c : Thread nD τ).loc main_arg1) (ix2 k ⟨blk t * 3072 + l.val, h⟩) := by
  refine Eq.trans ?_ (V_main_v0 m c k ⟨blk t * 3072 + l.val, h⟩)
  unfold wblk Pipeline.Window.fill
  rw [dif_pos (moved1 t l k h)]
  blk_ext [iblk, (index1 t).1, (index1 t).2]

/-- An element of the bias block inside the vocabulary is one of the bias. -/
theorem bblk_apply (l : Fin 3072) (h : blk t * 3072 + l.val < 100000) :
    bblk m c t (ix1 l) = m ((c : Thread nD τ).loc main_arg2) (ix1 ⟨blk t * 3072 + l.val, h⟩) := by
  unfold bblk Pipeline.Window.fill
  rw [dif_pos (moved2 t l h)]
  blk_ext [iblk, index2 t, V_main_arg2]

/-! ## The rows -/

/-- The logits of a row, for the arguments in memory. -/
abbrev rowAt (r : Fin 8) : ℕ → ℝ :=
  row (m ((c : Thread nD τ).loc main_arg0)) (m ((c : Thread nD τ).loc main_arg1)) (m ((c : Thread nD τ).loc main_arg2)) r

/-- The three arguments have real entries. -/
def FiniteAt : Prop := Finite (ι := S8x1024.Idx) (m ((c : Thread nD τ).loc main_arg0))
  ∧ Finite (ι := S1024x100000.Idx) (m ((c : Thread nD τ).loc main_arg1)) ∧ Finite (ι := S100000.Idx) (m ((c : Thread nD τ).loc main_arg2))

variable (hf : FiniteAt m c) (r : Fin 8)

include hf in
/-- A point's masked logits are the lanes of its block. -/
theorem pay13_lanes (l : Fin 3072) :
    k0_pay13 (grid0.coords t) (xblk m c t) (wblk m c t) (bblk m c t) (ix2 r l) = lanes (rowAt m c r) (blk t) l := by
  rw [pay13_apply]
  unfold lanes
  by_cases h : blk t * 3072 + l.val < 100000
  · rw [if_pos h, if_pos h, ← row_eq _ _ _ hf.1 hf.2.1 hf.2.2 r _ h, bblk_apply m c t l h]
    refine congrArg (· + _) (Finset.sum_congr rfl fun k _ => ?_)
    rw [xblk_apply, wblk_apply m c t l k h]
  · rw [if_neg h, if_neg h]

include hf in
/-- A point's maximum is its block's. -/
theorem pay14_top :
    k0_pay14 (grid0.coords t) (xblk m c t) (wblk m c t) (bblk m c t) (ix2 r 0) = top (rowAt m c r) (blk t) := by
  rw [pay14_apply]
  simp only [pay13_lanes m c t hf r]
  rfl

include hf in
/-- A point's column is its block's. -/
theorem pay15_arg :
    k0_pay15 (grid0.coords t) (xblk m c t) (wblk m c t) (bblk m c t) (ix2 r 0) = arg (rowAt m c r) (blk t) := by
  rw [pay15_apply]
  simp only [pay13_lanes m c t hf r, pay14_top m c t hf r, pay12_apply]
  rfl

include hf in
/-- One point, on a row: the four running values as the row's blocks give them. -/
theorem step_row (a : St Ideal) :
    (step (grid0.coords t) (xblk m c t) (wblk m c t) (bblk m c t) a).m (ix2 r 0) = max (a.m (ix2 r 0)) (top (rowAt m c r) (blk t))
    ∧ (step (grid0.coords t) (xblk m c t) (wblk m c t) (bblk m c t) a).s (ix2 r 0)
      = a.s (ix2 r 0) * Ideal.exp (a.m (ix2 r 0) - max (a.m (ix2 r 0)) (top (rowAt m c r) (blk t)))
        + ∑ l, Ideal.exp (lanes (rowAt m c r) (blk t) l - max (a.m (ix2 r 0)) (top (rowAt m c r) (blk t)))
    ∧ (step (grid0.coords t) (xblk m c t) (wblk m c t) (bblk m c t) a).t (ix2 r 0)
      = a.t (ix2 r 0) * Ideal.exp (a.m (ix2 r 0) - max (a.m (ix2 r 0)) (top (rowAt m c r) (blk t)))
        + ∑ l, lanes (rowAt m c r) (blk t) l
          * Ideal.exp (lanes (rowAt m c r) (blk t) l - max (a.m (ix2 r 0)) (top (rowAt m c r) (blk t)))
    ∧ (step (grid0.coords t) (xblk m c t) (wblk m c t) (bblk m c t) a).idx (ix2 r 0)
      = pick (a.m (ix2 r 0)) (top (rowAt m c r) (blk t)) (a.idx (ix2 r 0)) (arg (rowAt m c r) (blk t)) := by
  refine ⟨?_, ?_, ?_, ?_⟩
  · rw [step_m, pay14_top m c t hf r]
  · rw [step_s, pay14_top m c t hf r]
    simp only [pay13_lanes m c t hf r]
  · rw [step_t, pay14_top m c t hf r]
    simp only [pay13_lanes m c t hf r]
  · rw [step_idx, pay14_top m c t hf r, pay15_arg m c t hf r]
    rfl

/-- The four running values of a row after `n` points are right for the columns `C`. -/
def GoodAt (n : ℕ) (C : Finset ℕ) : Prop :=
  Good (rowAt m c r) C ((stAt m c n).m (ix2 r 0)) ((stAt m c n).s (ix2 r 0)) ((stAt m c n).t (ix2 r 0)) ((stAt m c n).idx (ix2 r 0))

include hf in
/-- After the first point: the last block. -/
theorem good_zero : GoodAt m c r 1 (cols 32) := by
  have e : stAt m c 1 = _ := stAt_succ m c ⟨0, by decide⟩
  obtain ⟨h1, h2, h3, h4⟩ := step_row m c ⟨0, by decide⟩ hf r (stAt m c 0)
  unfold GoodAt
  rw [e, h1, h2, h3, h4]
  have hm : (stAt m c 0).m (ix2 r 0) = (⊥ : EReal) := init_m r
  have hs : (stAt m c 0).s (ix2 r 0) = (0 : EReal) := init_s r
  have ht : (stAt m c 0).t (ix2 r 0) = (0 : EReal) := init_t r
  rw [hm, hs, ht]
  exact good_first (rowAt m c r) le_rfl _

include hf in
/-- After `n` points more: every column read so far. -/
theorem good_at (n : ℕ) (hn : n ≤ 32) : GoodAt m c r (n + 1) (seen n) := by
  induction n with
  | zero => exact good_zero m c hf r
  | succ n ih =>
    have hlt : n + 1 < grid0.N := show n + 1 < 33 by omega
    have hb : blk ⟨n + 1, hlt⟩ = n := by simp [blk]
    have e : stAt m c (n + 1 + 1) = _ := stAt_succ m c ⟨n + 1, hlt⟩
    obtain ⟨h1, h2, h3, h4⟩ := step_row m c ⟨n + 1, hlt⟩ hf r (stAt m c (n + 1))
    unfold GoodAt
    rw [e, h1, h2, h3, h4, hb]
    exact good_next (by omega) (seen_lt (by omega)) (seen_disjoint (by omega)) (ih (by omega))

/-- A column of eight, flattened, at a row. -/
theorem flat_apply {e : EltTy} (x : Vec Ideal S8x1 e) : flat x (ix1 r) = x (ix2 r 0) := by
  unfold flat
  pointwise

include hf in
/-- The three results of a row: its first largest column, that column's log probability, and the entropy. -/
theorem results_row : ∃ k, First (rowAt m c r) (Finset.range 100000) k
    ∧ flat (e := .i32) (stAt m c 33).idx (ix1 r) = BitVec.ofNat 32 k
    ∧ (flat (e := .f32) (k0_pay6 (stAt m c 33).m (stAt m c 33).s) (ix1 r) : EReal)
      = ((logProb (rowAt m c r) (Finset.range 100000) (rowAt m c r k) k : ℝ) : EReal)
    ∧ (flat (e := .f32) (k0_pay7 (stAt m c 33).m (stAt m c 33).s (stAt m c 33).t) (ix1 r) : EReal)
      = ((-∑ j ∈ Finset.range 100000, Real.exp (logProb (rowAt m c r) (Finset.range 100000) (rowAt m c r k) j)
          * logProb (rowAt m c r) (Finset.range 100000) (rowAt m c r k) j : ℝ) : EReal) := by
  have h := good_at m c hf r 32 le_rfl
  rw [seen_all] at h
  obtain ⟨k, hk, h1, h2, h3⟩ := good_end h
  exact ⟨k, hk, (flat_apply r _).trans h1, ((flat_apply r _).trans (pay6_apply r _ _)).trans h2,
    ((flat_apply r _).trans (pay7_apply r _ _ _)).trans h3⟩

end Cert.KernelIdeal.Stream

end
-- ==== Proof.Host.Run.lean ====
/- The run of the plain reference: its operations in order, what each result buffer ends at as a function of the three
   arguments, and its frame. -/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Plain

open Cert.ReferenceIdeal Cert.ReferenceIdeal.Gen
open Idealize.ShloMosaic Idealize.ShloMosaic.TcCoe Idealize.ShloMosaic.StableHlo Idealize.SL.Sem

variable {F : FTy → Type} [FloatOps F]

/-! ## The values -/

/-- The logits: the product of the message by the weights, plus the bias along the columns. -/
def logits (x : FVec F S8x1024 .f32) (w : FVec F S1024x100000 .f32) (b : FVec F S100000 .f32) : FVec F S8x100000 .f32 :=
  addf (Host.dotGeneral dot_S8x1024_S1024x100000_S8x100000_1_0_0_1_n_n none x w)
    (broadcastInDim S8x100000 ![0, 1] bcast_S1x100000_S8x100000_0_1 (broadcastInDim S1x100000 ![1] bcast_S100000_S1x100000_1 b))

/-- The logits less their row maxima. -/
def shifted (l : FVec F S8x100000 .f32) : FVec F S8x100000 .f32 :=
  subf l (broadcastInDim S8x100000 ![0, 1] bcast_S8x1_S8x100000_0_1 (broadcastInDim S8x1 ![0] bcast_S8_S8x1_0
    (maximumf (broadcastInDim S8 ![] bcast_S_S8 (constant S_ .f32 0xFF800000#32))
      (Host.reduce FloatOps.maximumf l (constant S_ .f32 0xFF800000#32) reducesTo_S8x100000_S8_d1 h_S_))))

/-- The log probabilities of the logits. -/
def logProbs (l : FVec F S8x100000 .f32) : FVec F S8x100000 .f32 :=
  subf (shifted l) (broadcastInDim S8x100000 ![0, 1] bcast_S8x1_S8x100000_0_1 (Host.log (broadcastInDim S8x1 ![0] bcast_S8_S8x1_0
    (Host.reduceAdd (Host.exp (shifted l)) (constant S_ .f32 0x00000000#32) reducesTo_S8x100000_S8_d1 h_S_))))

/-- The entropy of the log probabilities. -/
def entropy (p : FVec F S8x100000 .f32) : FVec F S8 .f32 :=
  Host.negf (Host.reduceAdd (mulf (Host.exp p) p) (constant S_ .f32 0x00000000#32) reducesTo_S8x100000_S8_d1 h_S_)

/-- The index of the largest logit of each row. -/
def best (l : FVec F S8x100000 .f32) : IVec S8 32 := fun j =>
  (Host.argReduce reducer_argmax_f32_i32 l (iotaInDim S8x100000 32 1) (constant S_ .f32 0xFF800000#32) (constantI S_ 32 0#32)
    reducesTo_S8x100000_S8_d1 h_S_ j).2

/-- The place read, a negative index counted from the end. -/
def place (ix : IVec S8 32) : IVec S8x1x1 32 :=
  shapeCast S8x1x1 (select (cmpi .slt (broadcastInDim S8x1 ![0] bcast_S8_S8x1_0 ix) (broadcastInDim S8x1 ![] bcast_S_S8x1 (constantI S_ 32 0#32)))
      (addi (broadcastInDim S8x1 ![0] bcast_S8_S8x1_0 ix) (broadcastInDim S8x1 ![] bcast_S_S8x1 (constantI S_ 32 100000#32)))
      (broadcastInDim S8x1 ![0] bcast_S8_S8x1_0 ix)) shapeCasts_S8x1_S8x1x1

/-- Whether the place is inside the row. -/
def inside (q : IVec S8x1x1 32) : IVec S8x1 1 :=
  Host.reduce IntOp.andi (andi (cmpi .sge q (broadcastInDim S8x1x1 ![] bcast_S_S8x1x1 (constantI S_ 32 0#32)))
      (cmpi .sle q (broadcastInDim S8x1x1 ![0, 1, 2] bcast_S1x1x1_S8x1x1_0_1_2 (broadcastInDim S1x1x1 ![2] bcast_S1_S1x1x1_2 (constantI S1 32 99999#32)))))
    (constantI S_ 1 1#1) reducesTo_S8x1x1_S8x1_d2 h_S_

/-- One entry of each row of `p`, at the row's index. -/
def taken (p : FVec F S8x100000 .f32) (ix : IVec S8 32) : FVec F S8 .f32 :=
  shapeCast S8 (select (inside (place ix)) (Host.gather gather_S8x100000_S8x1x1_S8x1_n_1_0_0_1_2_11 p (place ix))
    (broadcastInDim S8x1 ![] bcast_S_S8x1 (constant S_ .f32 0x7FC00000#32))) shapeCasts_S8x1_S8

/-! ## The run -/

/-- The logits' operations. -/
abbrev opsLogits : List (HloOp τ sig (Elt F)) :=
  [ binary main_arg0 main_arg1 main_v0 (fun l r => Host.dotGeneral dot_S8x1024_S1024x100000_S8x100000_1_0_0_1_n_n none l r),
    unary main_arg2 main_v1 (broadcastInDim S1x100000 ![1] bcast_S100000_S1x100000_1),
    unary main_v1 main_v2 (broadcastInDim S8x100000 ![0, 1] bcast_S1x100000_S8x100000_0_1),
    binary main_v0 main_v2 main_v3 addf ]

/-- The log probabilities' operations. -/
abbrev opsSoftmax : List (HloOp τ sig (Elt F)) :=
  [ nullary main_call0_cst (constant S_ .f32 0xFF800000#32),
    binary main_v3 main_call0_cst main_call0_v0 (fun x v => Host.reduce FloatOps.maximumf x v reducesTo_S8x100000_S8_d1 h_S_),
    nullary main_call0_cst_0 (constant S_ .f32 0xFF800000#32),
    unary main_call0_cst_0 main_call0_v1 (broadcastInDim S8 ![] bcast_S_S8),
    binary main_call0_v1 main_call0_v0 main_call0_v2 maximumf,
    unary main_call0_v2 main_call0_v3 (broadcastInDim S8x1 ![0] bcast_S8_S8x1_0),
    unary main_call0_v3 main_call0_v4 (broadcastInDim S8x100000 ![0, 1] bcast_S8x1_S8x100000_0_1),
    binary main_v3 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S8x100000_S8_d1 h_S_),
    unary main_call0_v7 main_call0_v8 (broadcastInDim S8x1 ![0] bcast_S8_S8x1_0),
    unary main_call0_v8 main_call0_v9 Host.log,
    unary main_call0_v9 main_call0_v10 (broadcastInDim S8x100000 ![0, 1] bcast_S8x1_S8x100000_0_1),
    binary main_call0_v5 main_call0_v10 main_v4 subf ]

/-- The entropy's operations. -/
abbrev opsEntropy : List (HloOp τ sig (Elt F)) :=
  [ unary main_v4 main_v5 Host.exp,
    binary main_v5 main_v4 main_v6 mulf,
    nullary main_cst (constant S_ .f32 0x00000000#32),
    binary main_v6 main_cst main_v7 (fun x v => Host.reduceAdd x v reducesTo_S8x100000_S8_d1 h_S_),
    unary main_v7 main_v8 Host.negf ]

/-- The index's operations. -/
abbrev opsBest : List (HloOp τ sig (Elt F)) :=
  [ nullary main_call1_v0 (iotaInDim S8x100000 32 1),
    nullary main_call1_cst (constant S_ .f32 0xFF800000#32),
    nullary main_call1_c (constantI S_ 32 0#32),
    quaternary main_v3 main_call1_v0 main_call1_cst main_call1_c main_call1_v1_0
      (fun x y u v j => (Host.argReduce reducer_argmax_f32_i32 x y u v reducesTo_S8x100000_S8_d1 h_S_ j).1),
    quaternary main_v3 main_call1_v0 main_call1_cst main_call1_c main_v9
      (fun x y u v j => (Host.argReduce reducer_argmax_f32_i32 x y u v reducesTo_S8x100000_S8_d1 h_S_ j).2) ]

/-- The index as a column. -/
abbrev opsColumn : List (HloOp τ sig (Elt F)) :=
  [ unary main_v9 main_v10 (broadcastInDim S8x1 ![0] bcast_S8_S8x1_0) ]

/-- The operations that read one log probability of each row. -/
abbrev opsTake : List (HloOp τ sig (Elt F)) :=
  [ nullary main_call2_c (constantI S_ 32 0#32),
    unary main_call2_c main_call2_v0 (broadcastInDim S8x1 ![] bcast_S_S8x1),
    binary main_v10 main_call2_v0 main_call2_v1 (cmpi .slt),
    nullary main_call2_c_0 (constantI S_ 32 100000#32),
    unary main_call2_c_0 main_call2_v2 (broadcastInDim S8x1 ![] bcast_S_S8x1),
    binary main_v10 main_call2_v2 main_call2_v3 addi,
    ternary main_call2_v1 main_call2_v3 main_v10 main_call2_v4 select,
    reshape main_call2_v4 main_call2_v5 (rfl : (.i32 : EltTy) = .i32) shapeCasts_S8x1_S8x1x1,
    nullary main_call2_c_1 (constantI S1 32 99999#32),
    nullary main_call2_c_2 (constantI S_ 32 0#32),
    unary main_call2_c_2 main_call2_v6 (broadcastInDim S8x1x1 ![] bcast_S_S8x1x1),
    binary main_call2_v5 main_call2_v6 main_call2_v7 (cmpi .sge),
    unary main_call2_c_1 main_call2_v8 (broadcastInDim S1x1x1 ![2] bcast_S1_S1x1x1_2),
    unary main_call2_v8 main_call2_v9 (broadcastInDim S8x1x1 ![0, 1, 2] bcast_S1x1x1_S8x1x1_0_1_2),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S8x1x1_S8x1_d2 h_S_),
    binary main_v4 main_call2_v5 main_call2_v13 (fun x i => Host.gather gather_S8x100000_S8x1x1_S8x1_n_1_0_0_1_2_11 x i),
    nullary main_call2_cst (constant S_ .f32 0x7FC00000#32),
    unary main_call2_cst main_call2_v14 (broadcastInDim S8x1 ![] bcast_S_S8x1),
    ternary main_call2_v12 main_call2_v13 main_call2_v14 main_v11 select ]

/-- The column as a vector. -/
abbrev opsLast : List (HloOp τ sig (Elt F)) :=
  [ reshape main_v11 main_v12 (rfl : (.f32 : EltTy) = .f32) shapeCasts_S8x1_S8 ]

/-- The operations, in order. -/
abbrev ops : List (HloOp τ sig (Elt F)) :=
  opsLogits ++ (opsSoftmax ++ (opsEntropy ++ (opsBest ++ (opsColumn ++ (opsTake ++ opsLast)))))

/-! A call's operations name its buffers with their types; at the buffers themselves they are the plain operations. -/

section Calls

variable {Val : EltTy → Type} (x a b c e y : Ref sig .tc)

/-- An operation without operands on a plain reference. -/
theorem nullary_of (v : y.ty.Contents Val) (hy hy') : TRef.nullary (τ := τ) (.of y rfl hy hy') v = nullary y v ⟨hy, hy'⟩ := rfl
/-- An operation of one operand on plain references. -/
theorem unary_of (f : x.ty.Contents Val → y.ty.Contents Val) (hx hx' hy hy') :
    TRef.unary (τ := τ) (.of x rfl hx hx') (.of y rfl hy hy') f = unary x y f ⟨hx, hx'⟩ ⟨hy, hy'⟩ := rfl
/-- An operation of two operands on plain references. -/
theorem binary_of (f : a.ty.Contents Val → b.ty.Contents Val → y.ty.Contents Val) (ha ha' hb hb' hy hy') :
    TRef.binary (τ := τ) (.of a rfl ha ha') (.of b rfl hb hb') (.of y rfl hy hy') f = binary a b y f ⟨ha, ha'⟩ ⟨hb, hb'⟩ ⟨hy, hy'⟩ := rfl
/-- An operation of three operands on plain references. -/
theorem ternary_of (f : c.ty.Contents Val → a.ty.Contents Val → b.ty.Contents Val → y.ty.Contents Val) (hc hc' ha ha' hb hb' hy hy') :
    TRef.ternary (τ := τ) (.of c rfl hc hc') (.of a rfl ha ha') (.of b rfl hb hb') (.of y rfl hy hy') f
      = ternary c a b y f ⟨hc, hc'⟩ ⟨ha, ha'⟩ ⟨hb, hb'⟩ ⟨hy, hy'⟩ := rfl
/-- An operation of four operands on plain references. -/
theorem quaternary_of (f : a.ty.Contents Val → b.ty.Contents Val → c.ty.Contents Val → e.ty.Contents Val → y.ty.Contents Val)
    (ha ha' hb hb' hc hc' he he' hy hy') :
    TRef.quaternary (τ := τ) (.of a rfl ha ha') (.of b rfl hb hb') (.of c rfl hc hc') (.of e rfl he he') (.of y rfl hy hy') f
      = quaternary a b c e y f ⟨ha, ha'⟩ ⟨hb, hb'⟩ ⟨hc, hc'⟩ ⟨he, he'⟩ ⟨hy, hy'⟩ := rfl

/-- One operation and then a straight line. -/
theorem seq_step {op op' : HloOp τ sig Val} {Λ : Labels} {p : Prog (TpuEff nD τ sig Val Λ .tc) PUnit} {l : List (HloOp τ sig Val)}
    (h : op = op') (hp : p = seq l) : ((hlo rfl op fun _ => .ret (⟨⟩ : PUnit)) >>= fun _ => p) = seq (op' :: l) := by
  subst h hp; rfl

end Calls

/-- The called log softmax is its operations in order. -/
theorem softmax_eq : fn_log_softmax.body (F := F) (.of main_v3) main_call0 = seq opsSoftmax :=
  seq_step (nullary_of ..) (seq_step (binary_of ..) (seq_step (nullary_of ..) (seq_step (unary_of ..) (seq_step (binary_of ..) (seq_step (unary_of ..) (seq_step (unary_of ..) (seq_step (binary_of ..) (seq_step (unary_of ..) (seq_step (nullary_of ..) (seq_step (binary_of ..) (seq_step (unary_of ..) (seq_step (unary_of ..) (seq_step (unary_of ..) (seq_step (binary_of ..) rfl))))))))))))))

/-- The called argmax is its operations in order. -/
theorem best_eq : fn_argmax.body (F := F) (.of main_v3) main_call1 = seq opsBest :=
  seq_step (nullary_of ..) (seq_step (nullary_of ..) (seq_step (nullary_of ..) (seq_step (quaternary_of ..) (seq_step (quaternary_of ..) rfl))))

/-- The called take is its operations in order. -/
theorem take_eq : fn_take_along_axis.body (F := F) (.of main_v4) (.of main_v10) main_call2 = seq opsTake :=
  seq_step (nullary_of ..) (seq_step (unary_of ..) (seq_step (binary_of ..) (seq_step (nullary_of ..) (seq_step (unary_of ..) (seq_step (binary_of ..) (seq_step (ternary_of ..) (seq_step rfl (seq_step (nullary_of ..) (seq_step (nullary_of ..) (seq_step (unary_of ..) (seq_step (binary_of ..) (seq_step (unary_of ..) (seq_step (unary_of ..) (seq_step (binary_of ..) (seq_step (binary_of ..) (seq_step (nullary_of ..) (seq_step (binary_of ..) (seq_step (binary_of ..) (seq_step (nullary_of ..) (seq_step (unary_of ..) (seq_step (ternary_of ..) rfl)))))))))))))))))))))

/-- The program is that straight line. -/
theorem main_eq (c : Dev nD) : main (F := F) c = seq ops := by
  unfold main
  rw [softmax_eq, best_eq, take_eq]
  simp only [ops, seq_append]
  rfl

/-- Nothing of this signature is scoped. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, opsLogits, opsSoftmax, opsEntropy, opsBest, opsColumn, opsTake, opsLast, List.cons_append, List.nil_append]
  simp only [List.forall_cons, List.Forall, and_true, unary_bufs_sub, binary_bufs_sub, nullary_bufs_sub, ternary_bufs_sub,
    quaternary_bufs_sub, reshape_bufs_sub]

/-- Every operation determines its results. -/
theorem ops_fresh : ∀ op ∈ (ops : List (HloOp τ sig (Elt F))), op.fresh = ∅ := by
  rw [← List.forall_iff_forall_mem]
  simp only [ops, opsLogits, opsSoftmax, opsEntropy, opsBest, opsColumn, opsTake, opsLast, List.cons_append, List.nil_append]
  exact ⟨rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

variable (V : Valuation τ sig (Elt F))

/-- The log probabilities' buffer. -/
theorem v9_eq : after ops V (main_v9 : DevRef τ sig)
    = best (logits (V (main_arg0 : DevRef τ sig)) (V (main_arg1 : DevRef τ sig)) (V (main_arg2 : DevRef τ sig))) := by
  simp only [ops, opsLogits, opsSoftmax, opsEntropy, opsBest, opsColumn, opsTake, opsLast, List.cons_append, List.nil_append]
  after_results
  rfl

/-- What the entropy's buffer ends at. -/
theorem v8_eq : after ops V (main_v8 : DevRef τ sig)
    = entropy (logProbs (logits (V (main_arg0 : DevRef τ sig)) (V (main_arg1 : DevRef τ sig)) (V (main_arg2 : DevRef τ sig)))) := by
  simp only [ops, opsLogits, opsSoftmax, opsEntropy, opsBest, opsColumn, opsTake, opsLast, List.cons_append, List.nil_append]
  after_results
  rfl

/-- What the buffer of the taken log probabilities ends at. -/
theorem v12_eq : after ops V (main_v12 : DevRef τ sig)
    = taken (logProbs (logits (V (main_arg0 : DevRef τ sig)) (V (main_arg1 : DevRef τ sig)) (V (main_arg2 : DevRef τ sig))))
        (best (logits (V (main_arg0 : DevRef τ sig)) (V (main_arg1 : DevRef τ sig)) (V (main_arg2 : DevRef τ sig)))) := by
  simp only [ops, opsLogits, opsSoftmax, opsEntropy, opsBest, opsColumn, opsTake, opsLast, List.cons_append, List.nil_append]
  after_results_simp
  rfl

/-- The message is unchanged. -/
theorem arg0_eq : after ops V (main_arg0 : DevRef τ sig) = V (main_arg0 : DevRef τ sig) := by
  simp only [ops, opsLogits, opsSoftmax, opsEntropy, opsBest, opsColumn, opsTake, opsLast, List.cons_append, List.nil_append]
  after_results
/-- The weights are unchanged. -/
theorem arg1_eq : after ops V (main_arg1 : DevRef τ sig) = V (main_arg1 : DevRef τ sig) := by
  simp only [ops, opsLogits, opsSoftmax, opsEntropy, opsBest, opsColumn, opsTake, opsLast, List.cons_append, List.nil_append]
  after_results
/-- The bias is unchanged. -/
theorem arg2_eq : after ops V (main_arg2 : DevRef τ sig) = V (main_arg2 : DevRef τ sig) := by
  simp only [ops, opsLogits, opsSoftmax, opsEntropy, opsBest, opsColumn, opsTake, opsLast, List.cons_append, List.nil_append]
  after_results

/-- The run: the three results at their values, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = best (logits (m ((c.tc : Thread nD τ).loc main_arg0)) (m ((c.tc : Thread nD τ).loc main_arg1)) (m ((c.tc : Thread nD τ).loc main_arg2)))
      ∧ r.2.mem ((c.tc : Thread nD τ).loc main_v12)
        = taken (logProbs (logits (m ((c.tc : Thread nD τ).loc main_arg0)) (m ((c.tc : Thread nD τ).loc main_arg1)) (m ((c.tc : Thread nD τ).loc main_arg2))))
          (best (logits (m ((c.tc : Thread nD τ).loc main_arg0)) (m ((c.tc : Thread nD τ).loc main_arg1)) (m ((c.tc : Thread nD τ).loc main_arg2))))
      ∧ r.2.mem ((c.tc : Thread nD τ).loc main_v8)
        = entropy (logProbs (logits (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (v9_eq _), (h c main_v12).trans (v12_eq _), (h c main_v8).trans (v8_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ (fun _ => ops_fresh))

/-- The frame: the arguments unchanged, every semaphore counter at zero (the program declares none). -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2, sem_eq_zero_of_no_sems (by decide) r.2⟩) (run m ρ)

end Cert.ReferenceIdeal.Plain

end
-- ==== Proof.Host.Rows.lean ====
module

public import proofs.«01_k».proof.Proof.Host.Run
public import proofs.«01_k».proof.Proof.Math.Row
public import Idealize.ShloMosaic.PureOps.Ideal.Laws

/-!
# The plain reference's results, row by row

For arguments whose entries are all real: the logits, their log probabilities and entropy, the index of the largest logit,
and the log probability read at that index.
-/

@[expose] public section

set_option maxRecDepth 16384

noncomputable section

namespace Cert.ReferenceIdeal.Plain

open Cert.ReferenceIdeal Cert.ReferenceIdeal.Gen
open Idealize.ShloMosaic
open Cert.Online

/-! ## Operations read at an index -/

/-- The pattern of minus infinity is the least extended real. -/
theorem ofBits_neg_inf : Ideal.ofBits FTy.f32 4286578688#32 = ⊥ := by
  simp [Ideal.ofBits, Ideal.ieee]

/-- The columns of a row reduce to one entry. -/
theorem reduces_row : S8x100000.Reduces [1] S8 := by decide

/-- The index of a row's column. -/
theorem lift_row (r : Fin 8) (k : Fin 100000) : reduces_row.lift (ix1 r) k = ix2 r k := by
  funext a
  match a with
  | ⟨0, _⟩ => rfl
  | ⟨1, _⟩ => rfl

/-- The host's sum along a row. -/
theorem sumRow_apply (y : FVec Ideal S8x100000 .f32) (r : Fin 8) :
    Host.reduceAdd y (constant S_ .f32 0x00000000#32) reducesTo_S8x100000_S8_d1 h_S_ (ix1 r) = ∑ j : Fin 100000, y (ix2 r j) := by
  refine (Ideal.hostReduceAdd_single reducesTo_S8x100000_S8_d1 reduces_row y _ (ix1 r)).trans ?_
  have h0 : constant (F := Ideal) S_ .f32 0x00000000#32 (Shape.Idx.first h_S_) = (0 : EReal) := Ideal.ofBits_zero_f32
  rw [h0, zero_add]
  exact Finset.sum_congr rfl fun k _ => congrArg y (lift_row r k)

/-- The host's negation at a row. -/
theorem negf_apply (x : FVec Ideal S8 .f32) (r : Fin 8) : Host.negf x (ix1 r) = -(x (ix1 r) : EReal) := rfl

/-- The entropy at a row. -/
theorem entropy_apply (p : FVec Ideal S8x100000 .f32) (r : Fin 8) :
    entropy p (ix1 r) = -∑ j : Fin 100000, Ideal.exp (p (ix2 r j)) * p (ix2 r j) := by
  unfold entropy
  rw [negf_apply, sumRow_apply]
  refine congrArg _ (Finset.sum_congr rfl fun j _ => ?_)
  rfl

/-- The logits at an index. -/
theorem logits_apply (x : FVec Ideal S8x1024 .f32) (w : FVec Ideal S1024x100000 .f32) (b : FVec Ideal S100000 .f32) (r : Fin 8)
    (j : Fin 100000) : logits x w b (ix2 r j) = (∑ k : Fin 1024, (x (ix2 r k) : EReal) * w (ix2 k j)) + b (ix1 j) := by
  pointwise! [logits]

/-- A shifted logit at an index. -/
theorem shifted_apply (l : FVec Ideal S8x100000 .f32) (r : Fin 8) (j : Fin 100000) :
    shifted l (ix2 r j) = l (ix2 r j) - max ⊥ (Finset.univ.fold max ⊥ fun k : Fin 100000 => l (ix2 r k)) := by
  rw [← ofBits_neg_inf]
  pointwise! [shifted]

/-- A log probability at an index. -/
theorem logProbs_apply (l : FVec Ideal S8x100000 .f32) (r : Fin 8) (j : Fin 100000) :
    logProbs l (ix2 r j) = shifted l (ix2 r j) - Ideal.log (∑ k : Fin 100000, Ideal.exp (shifted l (ix2 r k))) := by
  pointwise! [logProbs]

/-- The entry of each row that the place names. -/
theorem operandIdx_apply (q : IVec S8x1x1 32) (r : Fin 8) (j : Fin 100000) (h : (q (ix3 r 0 0)).toInt.toNat = j.val) :
    gather_S8x100000_S8x1x1_S8x1_n_1_0_0_1_2_11.operandIdx (ix2 r 0) q = ix2 r j := by
  funext a
  refine Fin.ext ?_
  match a with
  | ⟨0, _⟩ =>
    show GatherDims.start _ (ix2 r 0) q 0 + GatherDims.batchCoord _ (ix2 r 0) 0 + GatherDims.offCoord _ (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    exact dif_pos (List.mem_singleton.mpr rfl)
  | ⟨1, _⟩ =>
    show GatherDims.start _ (ix2 r 0) q 1 + GatherDims.batchCoord _ (ix2 r 0) 1 + GatherDims.offCoord _ (ix2 r 0) 1 = j.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    have hj := j.isLt
    refine Eq.trans (b := min (q (ix3 r 0 0)).toInt.toNat 99999) ?_ (by omega)
    refine (dif_pos (List.mem_singleton.mpr rfl)).trans ?_
    refine congrArg (fun e => min (q e).toInt.toNat 99999) ?_
    funext b
    match b with
    | ⟨0, _⟩ => rfl
    | ⟨1, _⟩ => rfl
    | ⟨2, _⟩ => rfl

/-- The place of a nonnegative index is the index. -/
theorem place_apply (ix : IVec S8 32) (r : Fin 8) {k : ℕ} (hk : k < 100000) (h : ix (ix1 r) = BitVec.ofNat 32 k) :
    place ix (ix3 r 0 0) = BitVec.ofNat 32 k := by
  have e : place ix (ix3 r 0 0) = Scalar.select (IntOp.cmpi .slt (ix (ix1 r)) 0#32) (IntOp.addi (ix (ix1 r)) 100000#32) (ix (ix1 r)) := by
    pointwise! [place]
  have hs : IntOp.cmpi .slt (BitVec.ofNat 32 k) 0#32 = BitVec.ofBool (decide (k < 0)) :=
    WordCmp.cmpi_slt_ofNat (by norm_num; omega) (by norm_num)
  rw [e, h, hs]
  rfl

/-- A place below the row's length is inside it. -/
theorem inside_apply (q : IVec S8x1x1 32) (r : Fin 8) {k : ℕ} (hk : k < 100000) (h : q (ix3 r 0 0) = BitVec.ofNat 32 k) :
    inside q (ix2 r 0) = 1#1 := by
  have e : inside q (ix2 r 0) = Finset.univ.fold IntOp.andi 1#1 (fun x : Fin 1 =>
      IntOp.andi (IntOp.cmpi .sge (q (ix3 r 0 x)) 0#32) (IntOp.cmpi .sle (q (ix3 r 0 x)) 99999#32)) := by
    pointwise! [inside]
  have h1 : IntOp.cmpi .sge (BitVec.ofNat 32 k) 0#32 = BitVec.ofBool (decide (0 ≤ k)) :=
    WordCmp.cmpi_sge_ofNat (by norm_num; omega) (by norm_num)
  have h2 : IntOp.cmpi .sle (BitVec.ofNat 32 k) 99999#32 = BitVec.ofBool (decide (k ≤ 99999)) :=
    WordCmp.cmpi_sle_ofNat (by norm_num; omega) (by norm_num)
  have h3 : k ≤ 99999 := by omega
  rw [e, Finset.univ_unique, Finset.fold_singleton]
  show IntOp.andi (IntOp.andi (IntOp.cmpi .sge (q (ix3 r 0 0)) 0#32) (IntOp.cmpi .sle (q (ix3 r 0 0)) 99999#32)) 1#1 = 1#1
  rw [h, h1, h2]
  simp [h3, IntOp.andi]

/-- The entry read at a row whose index is the column `k`. -/
theorem taken_apply (p : FVec Ideal S8x100000 .f32) (ix : IVec S8 32) (r : Fin 8) (k : Fin 100000)
    (h : ix (ix1 r) = BitVec.ofNat 32 k.val) : taken p ix (ix1 r) = p (ix2 r k) := by
  have hp := place_apply ix r k.isLt h
  have e : taken p ix (ix1 r) = Scalar.select (inside (place ix) (ix2 r 0))
      (Host.gather gather_S8x100000_S8x1x1_S8x1_n_1_0_0_1_2_11 p (place ix) (ix2 r 0)) (Ideal.ofBits FTy.f32 2143289344#32) := by
    pointwise! [taken]
  rw [e, inside_apply (place ix) r k.isLt hp]
  refine congrArg p (operandIdx_apply (place ix) r k ?_)
  have hk := k.isLt
  rw [hp, toInt_small (n := k.val) (by omega)]
  rfl

/-! ## The index of the largest logit -/

/-- One step of the search, from a column and its logit to another. -/
theorem reducer_apply (x : ℕ → ℝ) {k j : ℕ} (hk : k < 100000) (hj : j < 100000) :
    reducer_argmax_f32_i32 (F := Ideal) (((x k : ℝ) : EReal), BitVec.ofNat 32 k) (((x j : ℝ) : EReal), BitVec.ofNat 32 j)
      = (((x (if x k < x j ∨ (x j = x k ∧ j < k) then j else k) : ℝ) : EReal),
          BitVec.ofNat 32 (if x k < x j ∨ (x j = x k ∧ j < k) then j else k)) := by
  have hs : IntOp.cmpi .slt (BitVec.ofNat 32 k) (BitVec.ofNat 32 j) = BitVec.ofBool (decide (k < j)) :=
    WordCmp.cmpi_slt_ofNat (by norm_num; omega) (by norm_num; omega)
  unfold reducer_argmax_f32_i32
  dsimp only
  rw [hs]
  simp only [Ideal.cmpf_def, Ideal.cmp, gt_iff_lt, EReal.coe_lt_coe_iff, EReal.coe_eq_coe_iff]
  rcases lt_trichotomy (x k) (x j) with h | h | h
  · simp [h, h.le, not_lt.2 h.le, h.ne, IntOp.ori, IntOp.andi, Scalar.select]
  · rcases lt_trichotomy k j with h' | h' | h'
    · simp [h, h', not_lt.2 h'.le, IntOp.ori, IntOp.andi, Scalar.select]
    · simp [h', IntOp.ori, IntOp.andi, Scalar.select]
    · simp [h, h', not_lt.2 h'.le, IntOp.ori, IntOp.andi, Scalar.select]
  · simp [h, not_lt.2 h.le, h.ne, h.ne', IntOp.ori, IntOp.andi, Scalar.select]

/-- The first step of the search. -/
theorem reducer_start (x : ℕ → ℝ) (j : ℕ) :
    reducer_argmax_f32_i32 (F := Ideal) ((⊥ : EReal), 0#32) (((x j : ℝ) : EReal), BitVec.ofNat 32 j)
      = (((x j : ℝ) : EReal), BitVec.ofNat 32 j) := by
  unfold reducer_argmax_f32_i32
  dsimp only
  simp only [Ideal.cmpf_def, Ideal.cmp]
  simp [IntOp.ori, IntOp.andi, Scalar.select]

/-- A column and its logit. -/
def pair (x : ℕ → ℝ) (j : ℕ) : Ideal .f32 × BitVec 32 := (((x j : ℝ) : EReal), BitVec.ofNat 32 j)

/-- The search along a list of columns, from the first largest of the columns `C`. -/
theorem search_from (x : ℕ → ℝ) (L : List ℕ) : ∀ {C : Finset ℕ} {k : ℕ}, (∀ j ∈ C, j < 100000) → (∀ j ∈ L, j < 100000) → First x C k →
    ∃ q, First x (C ∪ L.toFinset) q ∧ (L.map (pair x)).foldl (reducer_argmax_f32_i32 (F := Ideal)) (pair x k) = pair x q := by
  induction L with
  | nil =>
    intro C k _ _ h
    exact ⟨k, by simpa using h, rfl⟩
  | cons j L ih =>
    intro C k hC hL h
    have hj : j < 100000 := hL j (by simp)
    have h1 : First x {j} j := ⟨by simp, by simp, by simp⟩
    have hC' : ∀ i ∈ C ∪ {j}, i < 100000 := by
      intro i hi
      rcases Finset.mem_union.1 hi with hi | hi
      · exact hC i hi
      · rw [Finset.mem_singleton.1 hi]; exact hj
    obtain ⟨q, hq, e⟩ := ih hC' (fun i hi => hL i (by simp [hi])) (h.union h1)
    refine ⟨q, ?_, ?_⟩
    · rwa [Finset.union_assoc, ← Finset.insert_eq, ← List.toFinset_cons] at hq
    · rw [List.map_cons, List.foldl_cons]
      have hr : reducer_argmax_f32_i32 (F := Ideal) (pair x k) (pair x j) = _ := reducer_apply x (hC k h.mem) hj
      rw [hr]
      exact e

/-- The search along a nonempty list of columns. -/
theorem search (x : ℕ → ℝ) (L : List ℕ) (hL : ∀ j ∈ L, j < 100000) (hne : L ≠ []) :
    ∃ q, First x L.toFinset q ∧ (L.map (pair x)).foldl (reducer_argmax_f32_i32 (F := Ideal)) ((⊥ : EReal), 0#32) = pair x q := by
  obtain ⟨j, L, rfl⟩ := List.exists_cons_of_ne_nil hne
  have h1 : First x {j} j := ⟨by simp, by simp, by simp⟩
  obtain ⟨q, hq, e⟩ := search_from x L (C := {j}) (by simpa using hL j (by simp)) (fun i hi => hL i (by simp [hi])) h1
  refine ⟨q, ?_, ?_⟩
  · rwa [← Finset.insert_eq, ← List.toFinset_cons] at hq
  · rw [List.map_cons, List.foldl_cons]
    have hr : reducer_argmax_f32_i32 (F := Ideal) ((⊥ : EReal), 0#32) (pair x j) = pair x j := reducer_start x j
    rw [hr]
    exact e

/-- The columns the search visits at row `r`, in its order. -/
def visits (r : Fin 8) : List ℕ :=
  ((List.finRange S8x100000.numel).filter fun n => reducesTo_S8x100000_S8_d1.drop (S8x100000.rowMajor.symm n) = ix1 r).map
    fun n => (S8x100000.rowMajor.symm n 1).val

/-- An index that drops to a row lies in it. -/
theorem drop_row (i : S8x100000.Idx) (r : Fin 8) (h : reducesTo_S8x100000_S8_d1.drop i = ix1 r) : i 0 = r := by
  have e := congrArg Fin.val (congrFun h 0)
  exact Fin.ext ((Shape.ReducesTo.drop_apply_val_of_eq reducesTo_S8x100000_S8_d1 i 0 0).symm.trans e)

/-- An index of a row drops to it. -/
theorem row_drop (r : Fin 8) (j : Fin 100000) : reducesTo_S8x100000_S8_d1.drop (ix2 r j) = ix1 r := by
  funext a
  obtain rfl : a = 0 := Subsingleton.elim _ _
  exact Fin.ext (Shape.ReducesTo.drop_apply_val_of_eq reducesTo_S8x100000_S8_d1 (ix2 r j) 0 0)

/-- The search visits every column and no other. -/
theorem visits_toFinset (r : Fin 8) : (visits r).toFinset = Finset.range 100000 := by
  ext j
  rw [List.mem_toFinset, Finset.mem_range]
  unfold visits
  rw [List.mem_map]
  constructor
  · rintro ⟨n, _, rfl⟩
    exact (S8x100000.rowMajor.symm n 1).isLt
  · intro hj
    refine ⟨S8x100000.rowMajor (ix2 r ⟨j, hj⟩), ?_, ?_⟩
    · rw [List.mem_filter, Equiv.symm_apply_apply]
      exact ⟨List.mem_finRange _, decide_eq_true (row_drop r ⟨j, hj⟩)⟩
    · rw [Equiv.symm_apply_apply]
      rfl

/-- The index of the largest logit of a row of reals: the first largest column. -/
theorem best_apply (l : FVec Ideal S8x100000 .f32) (r : Fin 8) (x : ℕ → ℝ) (hl : ∀ j : Fin 100000, l (ix2 r j) = ((x j.val : ℝ) : EReal)) :
    ∃ k, First x (Finset.range 100000) k ∧ best l (ix1 r) = BitVec.ofNat 32 k := by
  have hlt : ∀ j ∈ visits r, j < 100000 := fun j hj => by
    rw [← List.mem_toFinset, visits_toFinset, Finset.mem_range] at hj
    exact hj
  have hne : visits r ≠ [] := fun h => by
    have e := visits_toFinset r
    rw [h] at e
    have : (0 : ℕ) ∈ Finset.range 100000 := Finset.mem_range.2 (by norm_num)
    rw [← e] at this
    simp at this
  obtain ⟨k, hk, e⟩ := search x (visits r) hlt hne
  rw [visits_toFinset] at hk
  refine ⟨k, hk, ?_⟩
  unfold best
  rw [Ideal.argReduce_eq_reduce2, Host.reduce2_eq_foldl_fiber]
  have hf : Host.argReduceFiber l (iotaInDim S8x100000 32 1) reducesTo_S8x100000_S8_d1 (ix1 r) = (visits r).map (pair x) := by
    unfold Host.argReduceFiber visits
    rw [List.map_map]
    refine List.map_congr_left fun n hn => ?_
    rw [List.mem_filter] at hn
    have h0 := drop_row _ r (of_decide_eq_true hn.2)
    have hi : S8x100000.rowMajor.symm n = ix2 r (S8x100000.rowMajor.symm n 1) := by
      rw [← h0]
      exact eq_ix2 _
    refine Prod.ext ?_ rfl
    show l (S8x100000.rowMajor.symm n) = _
    exact (congrArg l hi).trans (hl _)
  have hb : constant (F := Ideal) S_ .f32 0xFF800000#32 (Shape.Idx.first h_S_) = (⊥ : EReal) := ofBits_neg_inf
  have hz : constantI S_ 32 0#32 (Shape.Idx.first h_S_) = 0#32 := rfl
  rw [hf, hb, hz, e]
  rfl

/-! ## The results of a row -/

section Row

variable (x : FVec Ideal S8x1024 .f32) (w : FVec Ideal S1024x100000 .f32) (b : FVec Ideal S100000 .f32)
  (hx : Finite (ι := S8x1024.Idx) x) (hw : Finite (ι := S1024x100000.Idx) w) (hb : Finite (ι := S100000.Idx) b) (r : Fin 8)

include hx hw hb in
/-- The logits of a row are real. -/
theorem logits_row (j : Fin 100000) : logits x w b (ix2 r j) = ((row x w b r j.val : ℝ) : EReal) :=
  (logits_apply x w b r j).trans (row_eq x w b hx hw hb r j.val j.isLt)

/-- A sum over a row's columns of reals. -/
theorem sum_row (G : ℕ → ℝ) : ∑ j : Fin 100000, ((G j.val : ℝ) : EReal) = ((∑ j ∈ Finset.range 100000, G j : ℝ) : EReal) := by
  rw [← coe_sum, Fin.sum_univ_eq_sum_range G 100000]

/-- The maximum over a row's columns. -/
theorem max_row {G : ℕ → ℝ} {k : ℕ} (h : First G (Finset.range 100000) k) :
    Finset.univ.fold max ⊥ (fun j : Fin 100000 => ((G j.val : ℝ) : EReal)) = ((G k : ℝ) : EReal) := by
  refine le_antisymm (Finset.fold_max_le _ |>.2 ⟨bot_le, fun j _ => ?_⟩) (Finset.le_fold_max _ |>.2 (Or.inr ?_))
  · exact EReal.coe_le_coe_iff.2 (h.ge _ (Finset.mem_range.2 j.isLt))
  · exact ⟨⟨k, Finset.mem_range.1 h.mem⟩, Finset.mem_univ _, le_rfl⟩

variable {k : ℕ} (hk : First (row x w b r) (Finset.range 100000) k)

include hx hw hb hk in
/-- A shifted logit of a row. -/
theorem shifted_row (j : Fin 100000) :
    shifted (logits x w b) (ix2 r j) = ((row x w b r j.val - row x w b r k : ℝ) : EReal) := by
  rw [shifted_apply]
  simp only [logits_row x w b hx hw hb r]
  rw [max_row hk, max_eq_right bot_le, EReal.coe_sub]

include hx hw hb hk in
/-- A log probability of a row. -/
theorem logProbs_row (j : Fin 100000) : logProbs (logits x w b) (ix2 r j)
    = ((logProb (row x w b r) (Finset.range 100000) (row x w b r k) j.val : ℝ) : EReal) := by
  rw [logProbs_apply]
  simp only [shifted_row x w b hx hw hb r hk]
  have e : ∑ j : Fin 100000, Ideal.exp ((row x w b r j.val - row x w b r k : ℝ) : EReal)
      = ((mass (row x w b r) (Finset.range 100000) (row x w b r k) : ℝ) : EReal) :=
    sum_row fun j => Real.exp (row x w b r j - row x w b r k)
  rw [e, log_coe (mass_pos hk.mem _), ← EReal.coe_sub]
  rfl

include hx hw hb in
/-- The three results of a row. -/
theorem results_row (hk : First (row x w b r) (Finset.range 100000) k) : best (logits x w b) (ix1 r) = BitVec.ofNat 32 k
    ∧ (taken (logProbs (logits x w b)) (best (logits x w b)) (ix1 r) : EReal)
      = ((logProb (row x w b r) (Finset.range 100000) (row x w b r k) k : ℝ) : EReal)
    ∧ (entropy (logProbs (logits x w b)) (ix1 r) : EReal)
      = ((-∑ j ∈ Finset.range 100000, Real.exp (logProb (row x w b r) (Finset.range 100000) (row x w b r k) j)
          * logProb (row x w b r) (Finset.range 100000) (row x w b r k) j : ℝ) : EReal) := by
  obtain ⟨k', hk', e⟩ := best_apply (logits x w b) r (row x w b r) (logits_row x w b hx hw hb r)
  obtain rfl := hk'.unique hk
  have hlt := Finset.mem_range.1 hk.mem
  refine ⟨e, (taken_apply _ _ r ⟨k', hlt⟩ e).trans (logProbs_row x w b hx hw hb r hk _), ?_⟩
  rw [entropy_apply]
  simp only [logProbs_row x w b hx hw hb r hk]
  rw [EReal.coe_neg, ← sum_row]
  refine congrArg _ (Finset.sum_congr rfl fun j _ => ?_)
  rw [EReal.coe_mul]
  rfl

end Row

end Cert.ReferenceIdeal.Plain

end
-- ==== Proof.Pre.Finite.lean ====
module

public import proofs.«01_k».proof.Pre_finite
public import proofs.«01_k».proof.Proof.Math.Row
public import Idealize.ShloMosaic.PureOps.Ideal.Laws

/-!
# What the precondition says

The predicate on the three arguments is true only if every entry of each is a real number.
-/

@[expose] public section

set_option maxRecDepth 16384

noncomputable section

namespace Cert.Pre_finite.Decode

open Cert.Pre_finite
open Idealize.ShloMosaic
open Cert.Online

/-- The side conditions of the predicate's operations. -/
theorem sides : Cert.Pre_finite.Facts where
  bcast_S_S8x1024 := by decide
  reducesTo_S8x1024_S_d0_1 := by decide
  h_S_ := by decide
  bcast_S_S1024x100000 := by decide
  reducesTo_S1024x100000_S_d0_1 := by decide
  bcast_S_S100000 := by decide
  reducesTo_S100000_S_d0 := by decide

/-- The pattern of plus infinity is the greatest extended real. -/
theorem ofBits_pos_inf : Ideal.ofBits FTy.f32 0x7F800000#32 = ⊤ := by
  simp [Ideal.ofBits, Ideal.ieee]

/-- A conjunction of two bits is set when both are. -/
theorem andi_eq_one {x y : BitVec 1} : IntOp.andi x y = 1#1 ↔ x = 1#1 ∧ y = 1#1 := by
  revert x y
  decide

/-- A conjunction over a whole array is set only if every bit is. -/
theorem all_of_reduce {s : Shape} {axes : List (Fin s.rank)} (y : IVec s 1) (init : IVec S_ 1) (h : s.ReducesTo axes S_) (hu : 0 < S_.numel)
    (j : S_.Idx) (e : Host.reduce IntOp.andi y init h hu j = 1#1) (i : s.Idx) : y i = 1#1 := by
  rw [Host.reduce_eq_fold] at e
  have r := (Finset.fold_op_rel_iff_and (r := fun _ z : BitVec 1 => z = 1#1) (c := 1#1) (op := IntOp.andi)
    (fun {_ _ _} => andi_eq_one)).1 e
  exact r.2 i (Finset.mem_filter.2 ⟨Finset.mem_univ _, funext fun a => a.elim0⟩)

/-- The test of one array: every magnitude is below infinity. -/
theorem finite_of_test {s : Shape} {axes : List (Fin s.rank)} (x : FVec Ideal s .f32) (hb : S_.BroadcastsInDim s (![] : Fin 0 → Fin s.rank))
    (init : IVec S_ 1) (h : s.ReducesTo axes S_) (hu : 0 < S_.numel) (j : S_.Idx)
    (e : Host.reduce IntOp.andi (cmpf .olt (Host.absf x) (broadcastInDim s ![] hb (constant S_ .f32 0x7F800000#32))) init h hu j = 1#1) :
    Finite (ι := s.Idx) x := by
  intro i
  have e' : FloatOps.cmpf .olt (max (x i : EReal) (-(x i)) : Ideal .f32) (Ideal.ofBits FTy.f32 0x7F800000#32 : Ideal .f32) = 1#1 :=
    all_of_reduce _ _ h hu j e i
  rw [Ideal.cmpf_def, ofBits_pos_inf] at e'
  simp only [Ideal.cmp, WordCmp.ofBool_decide_eq_one_iff] at e'
  constructor
  · rintro hx
    rw [hx] at e'
    simp at e'
  · rintro hx
    rw [hx] at e'
    simp at e'

/-- The precondition: the three arguments' entries are real. -/
theorem finite_of_pre (x : FVec Ideal S8x1024 .f32) (w : FVec Ideal S1024x100000 .f32) (b : FVec Ideal S100000 .f32)
    [Cert.Pre_finite.Facts] (h : Cert.Pre_finite.fn (F := Ideal) x w b = fun _ => 1#1) :
    Finite (ι := S8x1024.Idx) x ∧ Finite (ι := S1024x100000.Idx) w ∧ Finite (ι := S100000.Idx) b := by
  have e : Cert.Pre_finite.fn (F := Ideal) x w b (fun a => a.elim0) = 1#1 := congrFun h _
  unfold Cert.Pre_finite.fn at e
  dsimp only at e
  obtain ⟨e1, e2⟩ := andi_eq_one.1 e
  obtain ⟨e3, e4⟩ := andi_eq_one.1 e1
  exact ⟨finite_of_test x _ _ _ _ _ e3, finite_of_test w _ _ _ _ _ e4, finite_of_test b _ _ _ _ _ e2⟩

end Cert.Pre_finite.Decode

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Word.Frame
public import proofs.«01_k».proof.Proof.Ideal.Run
public import proofs.«01_k».proof.Proof.Ideal.Rows
public import proofs.«01_k».proof.Proof.Host.Run
public import proofs.«01_k».proof.Proof.Host.Rows
public import proofs.«01_k».proof.Proof.Pre.Finite
public import Idealize.ShloMosaic.Adequacy
public import Idealize.ShloMosaic.Init

@[expose] public section

noncomputable section

namespace Cert.Proof

open Idealize.ShloMosaic Idealize.SL.Sem
open Cert.KernelIdeal.Stream (flat stAt)
open Cert.ReferenceIdeal.Plain (logits logProbs entropy best taken)

/-- The mask constant of the idealized kernel is minus infinity. -/
theorem mask_named : Cert.preserves_Kernel_KernelIdeal :=
  IdealRules.named_const.statement Cert.KernelIdeal.κ "mask" .f32 _ ⊥ rfl

/-- From finite arguments the kernel's three results are the plain computation's. -/
theorem values (x : FVec Ideal Cert.ReferenceIdeal.S8x1024 .f32) (w : FVec Ideal Cert.ReferenceIdeal.S1024x100000 .f32)
    (b : FVec Ideal Cert.ReferenceIdeal.S100000 .f32)
    (m : (ℓ : Loc Cert.KernelIdeal.nD Cert.KernelIdeal.τ Cert.KernelIdeal.sig) → Buf (Elt Ideal) ℓ) (c : Dev Cert.KernelIdeal.nD)
    (hf : Cert.KernelIdeal.Stream.FiniteAt m c)
    (hx : x = m ((c.tc : Thread Cert.KernelIdeal.nD Cert.KernelIdeal.τ).loc Cert.KernelIdeal.main_arg0))
    (hw : w = m ((c.tc : Thread Cert.KernelIdeal.nD Cert.KernelIdeal.τ).loc Cert.KernelIdeal.main_arg1))
    (hb : b = m ((c.tc : Thread Cert.KernelIdeal.nD Cert.KernelIdeal.τ).loc Cert.KernelIdeal.main_arg2)) :
    best (logits x w b) = flat (e := .i32) (stAt m c 33).idx
    ∧ taken (logProbs (logits x w b)) (best (logits x w b))
      = flat (e := .f32) (Cert.KernelIdeal.Gen.k0_pay6 (stAt m c 33).m (stAt m c 33).s)
    ∧ entropy (logProbs (logits x w b))
      = flat (e := .f32) (Cert.KernelIdeal.Gen.k0_pay7 (stAt m c 33).m (stAt m c 33).s (stAt m c 33).t) := by
  subst hx hw hb
  refine ⟨funext fun j => ?_, funext fun j => ?_, funext fun j => ?_⟩ <;>
    obtain ⟨r, rfl⟩ : ∃ r : Fin 8, j = ix1 r := ⟨j 0, eq_ix1 j⟩ <;>
    obtain ⟨k, hk, h1, h2, h3⟩ := Cert.KernelIdeal.Stream.results_row m c hf r <;>
    obtain ⟨g1, g2, g3⟩ := Cert.ReferenceIdeal.Plain.results_row _ _ _ hf.1 hf.2.1 hf.2.2 r hk
  · exact g1.trans h1.symm
  · exact g2.trans h2.symm
  · exact g3.trans h3.symm

/-- From memories that agree on finite arguments the two programs end with equal results. -/
theorem equal [Cert.Pre_finite.Facts] : Cert.algebraic_KernelIdeal_ReferenceIdeal_pre_finite := by
  intro m g m' g' hpre hargs
  have hf : ∀ c, Cert.KernelIdeal.Stream.FiniteAt m c := fun c => Cert.Pre_finite.Decode.finite_of_pre _ _ _ (hpre c)
  refine ⟨_, _, _, Cert.KernelIdeal.Stream.run m g, ?_⟩
  refine (θ_run _ _ _).mono (fun r h c => ?_) (Cert.ReferenceIdeal.Plain.run m' g')
  obtain ⟨r1, r2, r3, r4⟩ := h c
  obtain ⟨a1, a2, a3⟩ := hargs c
  obtain ⟨v1, v2, v3⟩ := values _ _ _ m c (hf c) a1 a2 a3
  exact ⟨r1.trans v1, r2.trans v2, r3.trans v3, r4⟩

/-- The claim. -/
theorem claim : Cert.Claim :=
  ⟨Cert.Kernel.Gen.facts, Cert.KernelIdeal.Gen.facts, Cert.ReferenceIdeal.Gen.facts, Cert.Pre_finite.Decode.sides,
    fun m g _ => Cert.Kernel.Word.quiescent m g,
    fun m g _ => Cert.KernelIdeal.Stream.quiescent m g,
    fun m g _ => Cert.KernelIdeal.Stream.quiescent m g,
    fun m g _ => Cert.ReferenceIdeal.Plain.quiescent m g,
    fun m g _ => Cert.ReferenceIdeal.Plain.quiescent m g,
    mask_named,
    @equal Cert.Pre_finite.Decode.sides⟩

end Cert.Proof

end
